-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S8192x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S_ : Shape := ⟨0, ![]⟩
abbrev S256 : Shape := ⟨1, ![256]⟩
abbrev S256x1 : Shape := ⟨2, ![256, 1]⟩
abbrev S256x512 : Shape := ⟨2, ![256, 512]⟩
abbrev S512x512 : Shape := ⟨2, ![512, 512]⟩
abbrev S8 : Shape := ⟨1, ![8]⟩
abbrev S1 : Shape := ⟨1, ![1]⟩
abbrev S32x512 : Shape := ⟨2, ![32, 512]⟩

abbrev nBuf : Space → Nat
  | .hbm => 53
  | .vmem => 3
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i1⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256x1, .i1⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S256x1, .i32⟩
  | .hbm, ⟨46, _⟩ => ⟨S256x512, .f32⟩
  | .hbm, ⟨47, _⟩ => ⟨S_, .f32⟩
  | .hbm, ⟨48, _⟩ => ⟨S_, .f32⟩
  | .hbm, ⟨49, _⟩ => ⟨S256x512, .i1⟩
  | .hbm, ⟨50, _⟩ => ⟨S256x512, .f32⟩
  | .hbm, ⟨51, _⟩ => ⟨S256x512, .f32⟩
  | .hbm, ⟨52, _⟩ => ⟨S512x512, .f32⟩
  | .local _ .vmem, ⟨0, _⟩ => ⟨S256x512, .f32⟩
  | .local _ .vmem, ⟨1, _⟩ => ⟨S512x512, .f32⟩
  | .local _ .vmem, ⟨2, _⟩ => ⟨S256x512, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_c_6 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_9 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_c_10 : Ref sig .tc := ⟨.hbm, 38, rfl⟩
abbrev main_v24 : Ref sig .tc := ⟨.hbm, 39, rfl⟩
abbrev main_v25 : Ref sig .tc := ⟨.hbm, 40, rfl⟩
abbrev main_c_11 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_dev3 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v20 : BitVec 32 := Scalar.muli v6 c2_i32_16
  let v21 : BitVec 32 := Scalar.addi c0_i32_17 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v22 : BitVec 32 := Scalar.muli v5 c1_i32_18
  let v23 : BitVec 32 := Scalar.addi v21 v22
  v23.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v30 : BitVec 32 := Scalar.muli v6 c2_i32_25
  let v31 : BitVec 32 := Scalar.addi c0_i32_26 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v32 : BitVec 32 := Scalar.muli v5 c1_i32_27
  let v33 : BitVec 32 := Scalar.addi v31 v32
  v33.toNat
def k0_dev5 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v40 : BitVec 32 := Scalar.muli v6 c2_i32_33
  let v41 : BitVec 32 := Scalar.addi c0_i32_34 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v42 : BitVec 32 := Scalar.muli v5 c1_i32_35
  let v43 : BitVec 32 := Scalar.addi v41 v42
  v43.toNat
def k0_dev6 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v50 : BitVec 32 := Scalar.muli v6 c2_i32_40
  let v51 : BitVec 32 := Scalar.addi c0_i32_41 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v52 : BitVec 32 := Scalar.muli v5 c1_i32_42
  let v53 : BitVec 32 := Scalar.addi v51 v52
  v53.toNat
def k0_dev7 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v60 : BitVec 32 := Scalar.muli v6 c2_i32_47
  let v61 : BitVec 32 := Scalar.addi c0_i32_48 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v62 : BitVec 32 := Scalar.muli v5 c1_i32_49
  let v63 : BitVec 32 := Scalar.addi v61 v62
  v63.toNat
def k0_dev8 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v70 : BitVec 32 := Scalar.muli v6 c2_i32_54
  let v71 : BitVec 32 := Scalar.addi c0_i32_55 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v72 : BitVec 32 := Scalar.muli v5 c1_i32_56
  let v73 : BitVec 32 := Scalar.addi v71 v72
  v73.toNat
def k0_dev9 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v80 : BitVec 32 := Scalar.muli v6 c2_i32_61
  let v81 : BitVec 32 := Scalar.addi c0_i32_62 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v82 : BitVec 32 := Scalar.muli v5 c1_i32_63
  let v83 : BitVec 32 := Scalar.addi v81 v82
  v83.toNat
def k0_dev10 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v90 : BitVec 32 := Scalar.muli v6 c2_i32_68
  let v91 : BitVec 32 := Scalar.addi c0_i32_69 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v92 : BitVec 32 := Scalar.muli v5 c1_i32_70
  let v93 : BitVec 32 := Scalar.addi v91 v92
  v93.toNat
def k0_off1 (d0 : Dev nD) (c0_i32_83 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v108 : BitVec 32 := Scalar.addi v8 c0_i32_83
  let v113 : Index := Scalar.indexCast v108
  let c0_87 : Index := 0#32
  ![v113.toNat, 0]
def k0_off2 (d0 : Dev nD) (c0_i32_88 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v115 : BitVec 32 := Scalar.addi v8 c0_i32_88
  let c0_i32_94 : BitVec 32 := 0#32
  ![v115.toNat, 0]
def k0_dev11 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v116 : BitVec 32 := Scalar.muli v2 c2_i32_91
  let v117 : BitVec 32 := Scalar.addi c0_i32_92 v116
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_93 : BitVec 32 := 1#32
  let v118 : BitVec 32 := Scalar.muli v7 c1_i32_93
  let v119 : BitVec 32 := Scalar.addi v117 v118
  v119.toNat
def k0_dev12 (d0 : Dev nD) : Nat :=
  let c0_i32_114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_113 : BitVec 32 := 2#32
  let v142 : BitVec 32 := Scalar.muli v2 c2_i32_113
  let v143 : BitVec 32 := Scalar.addi c0_i32_114 v142
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_115 : BitVec 32 := 1#32
  let v144 : BitVec 32 := Scalar.muli v7 c1_i32_115
  let v145 : BitVec 32 := Scalar.addi v143 v144
  v145.toNat
def k0_dev13 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v168 : BitVec 32 := Scalar.muli v2 c2_i32_135
  let v169 : BitVec 32 := Scalar.addi c0_i32_136 v168
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_137 : BitVec 32 := 1#32
  let v170 : BitVec 32 := Scalar.muli v7 c1_i32_137
  let v171 : BitVec 32 := Scalar.addi v169 v170
  v171.toNat
def k0_dev14 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v194 : BitVec 32 := Scalar.muli v2 c2_i32_157
  let v195 : BitVec 32 := Scalar.addi c0_i32_158 v194
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_159 : BitVec 32 := 1#32
  let v196 : BitVec 32 := Scalar.muli v7 c1_i32_159
  let v197 : BitVec 32 := Scalar.addi v195 v196
  v197.toNat
def k0_dev15 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_179 : BitVec 32 := 2#32
  let v220 : BitVec 32 := Scalar.muli v2 c2_i32_179
  let v221 : BitVec 32 := Scalar.addi c0_i32_180 v220
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_181 : BitVec 32 := 1#32
  let v222 : BitVec 32 := Scalar.muli v7 c1_i32_181
  let v223 : BitVec 32 := Scalar.addi v221 v222
  v223.toNat
def k0_dev16 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v246 : BitVec 32 := Scalar.muli v2 c2_i32_201
  let v247 : BitVec 32 := Scalar.addi c0_i32_202 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_203 : BitVec 32 := 1#32
  let v248 : BitVec 32 := Scalar.muli v7 c1_i32_203
  let v249 : BitVec 32 := Scalar.addi v247 v248
  v249.toNat
def k0_dev17 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v272 : BitVec 32 := Scalar.muli v2 c2_i32_223
  let v273 : BitVec 32 := Scalar.addi c0_i32_224 v272
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_225 : BitVec 32 := 1#32
  let v274 : BitVec 32 := Scalar.muli v7 c1_i32_225
  let v275 : BitVec 32 := Scalar.addi v273 v274
  v275.toNat
def k0_dev18 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v298 : BitVec 32 := Scalar.muli v2 c2_i32_245
  let v299 : BitVec 32 := Scalar.addi c0_i32_246 v298
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_247 : BitVec 32 := 1#32
  let v300 : BitVec 32 := Scalar.muli v7 c1_i32_247
  let v301 : BitVec 32 := Scalar.addi v299 v300
  v301.toNat
def k0_off3 (d0 : Dev nD) (c0_i32_250 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c256_i32_5 : BitVec 32 := 256#32
  let v10 : BitVec 32 := Scalar.muli v9 c256_i32_5
  let v308 : BitVec 32 := Scalar.addi v10 c0_i32_250
  let c0_i32_256 : BitVec 32 := 0#32
  ![v308.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Clean.lean ====
/-
# The kernel body as a few short loops

The printed body is a straight line of some eighty operations cut into parts that do not follow the kernel's own
chunks. Here it is written again as the kernel's author thinks of it: two signals and a wait, then four loops over the
eight chunks of rows, each round of a loop a definition over the chunk number. `body_eq` says the two are one program.
-/
module

public import proofs.«01_k».proof.Proof.Gen.KernelIdeal
public import proofs.«01_k».proof.Proof.Gen.KernelIdeal.Skeleton
public import Idealize.ShloMosaic.Lib.Pipeline.Value

@[expose] public section

set_option maxRecDepth 16384

noncomputable section

namespace Cert.Lookup

open Cert.KernelIdeal Cert.KernelIdeal.Gen
open Idealize.ShloMosaic Idealize.ShloMosaic.TcCoe
open Idealize.SL Idealize.SL.Sem

variable {F : FTy → Type} [FloatOps F]

/-- The three buffers the body works on: its device's partial rows, the result, the rows received along `x`. -/
abbrev partM : Memref sig .tc .vmem S256x512 .f32 := Memref.whole cc0_stg0_0
abbrev outM : Memref sig .tc .vmem S512x512 .f32 := Memref.whole cc0_stg1_0
abbrev rcvM : Memref sig .tc .vmem S256x512 .f32 := Memref.whole cc0_scratch0

/-- Chunk `k`'s thirty-two rows lie inside the 256. -/
theorem rowsInb (k : Fin 8) : ∀ a, (![32 * k.val, 0] : Fin 2 → ℕ) a + S32x512.size a ≤ S256x512.size a :=
  Rect.inb₂ (by show 32 * k.val + 32 ≤ 256; omega) (by show 0 + 512 ≤ 512; omega)

/-- Chunk `k` of the 256 rows, as a rectangle. -/
abbrev rowsR (k : Fin 8) : Rect S256x512 := Rect.unit (s := S256x512) ![32 * k.val, 0] S32x512.size (rowsInb k)

/-- Chunk `k` of the partial rows, and of the received rows. -/
abbrev partC (k : Fin 8) : Memref sig .tc .vmem S32x512 .f32 := partM.slice (rowsR k) (fun _ => rfl)
abbrev rcvC (k : Fin 8) : Memref sig .tc .vmem S32x512 .f32 := rcvM.slice (rowsR k) (fun _ => rfl)

/-- Chunk `k` of device `d`'s own half of the result, as it is stored; as it is sent; and of the other half, as it is
    waited for. -/
abbrev storeR (d : Dev nD) (k : Fin 8) : Rect S512x512 :=
  Rect.unit (s := S512x512) (k0_off1 d (BitVec.ofNat 32 (32 * k.val))) S32x512.size (k0_off1_inb d k)
abbrev ownC (d : Dev nD) (k : Fin 8) : Memref sig .tc .vmem S32x512 .f32 :=
  outM.slice (Rect.unit (s := S512x512) (k0_off2 d (BitVec.ofNat 32 (32 * k.val))) S32x512.size (k0_off2_inb d k)) (fun _ => rfl)
abbrev otherC (d : Dev nD) (k : Fin 8) : Memref sig .tc .vmem S32x512 .f32 :=
  outM.slice (Rect.unit (s := S512x512) (k0_off3 d (BitVec.ofNat 32 (32 * k.val))) S32x512.size (k0_off3_inb d k)) (fun _ => rfl)

/-- The transfers' semaphores: kind `j` (0 and 1 the `x` copies' sending and receiving ones, 2 and 3 the `y` copies'),
    chunk `k`. -/
abbrev dsem (j : Fin 4) (k : Fin 8) : DmaSem sig := ⟨2 + 8 * j.val + k.val, by show _ < 34; omega⟩

/-- The barrier semaphore. -/
abbrev barS : Sem sig := sig.barrier 0 rfl

/-- The device each `x` copy, and each `y` copy, is printed as going to. -/
def xdev (d : Dev nD) : Fin 8 → Dev nD :=
  ![⟨k0_dev3 d, k0_dev3_lt d⟩, ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩, ⟨k0_dev10 d, k0_dev10_lt d⟩]
def ydev (d : Dev nD) : Fin 8 → Dev nD :=
  ![⟨k0_dev11 d, k0_dev11_lt d⟩, ⟨k0_dev12 d, k0_dev12_lt d⟩, ⟨k0_dev13 d, k0_dev13_lt d⟩, ⟨k0_dev14 d, k0_dev14_lt d⟩,
    ⟨k0_dev15 d, k0_dev15_lt d⟩, ⟨k0_dev16 d, k0_dev16_lt d⟩, ⟨k0_dev17 d, k0_dev17_lt d⟩, ⟨k0_dev18 d, k0_dev18_lt d⟩]

/-- A program of the body's processor. -/
abbrev Pr (F : FTy → Type) : Type 1 := Prog (TpuEff nD τ sig (Elt F) Λ₀ .tc) PUnit

/-- Send chunk `k` of the partial rows to device `n`. -/
def xSend (n : Dev nD) (k : Fin 8) : Pr F :=
  .op (.enqueueDma (partC k) (.remote (Dev.tc n) (rcvC k) (.dma (dsem 0 k))) (.dma (dsem 1 k))
    (View.wordExact_bits rfl) (View.wordExact_bits rfl) ⟨⟨rfl, Or.inl rfl⟩, trivial⟩) .ret

/-- One round of the middle loop: wait for chunk `k` of the `x` neighbour's rows, add it to one's own, store the sum in
    one's half of the result and send it to device `n`. -/
def step (d n : Dev nD) (k : Fin 8) : Pr F :=
  .op (.waitDma2 (dsem 1 k) (partC k) (rcvC k) (View.wordExact_bits rfl) (View.wordExact_bits rfl)) fun _ =>
  .op (.load partM (rowsR k).toLoadRect (View.loadsAt_vmem h_S32x512)) fun a =>
  .op (.load rcvM (rowsR k).toLoadRect (View.loadsAt_vmem h_S32x512)) fun b =>
  .op (.load outM (storeR d k).toLoadRect (View.loadsAt_vmem h_S32x512)) fun _ =>
  .op (.store outM (storeR d k) (k0_pay1 a b) Finset.univ (View.stores_vmem_bits_univ h_S32x512 rfl) (.inl rfl)) fun _ =>
  .op (.enqueueDma (ownC d k) (.remote (Dev.tc n) (ownC d k) (.dma (dsem 2 k))) (.dma (dsem 3 k))
    (View.wordExact_bits rfl) (View.wordExact_bits rfl) ⟨⟨rfl, Or.inl rfl⟩, trivial⟩) .ret

/-- Wait for chunk `k` of the other half of the result. -/
def yWait (d : Dev nD) (k : Fin 8) : Pr F :=
  .op (.waitDma2 (dsem 3 k) (otherC d k) (otherC d k) (View.wordExact_bits rfl) (View.wordExact_bits rfl)) .ret

/-- Wait for one's own two copies of chunk `k` to have left. -/
def sent (d : Dev nD) (k : Fin 8) : Pr F :=
  .op (.waitDma2 (dsem 0 k) (rcvC k) (partC k) (View.wordExact_bits rfl) (View.wordExact_bits rfl)) fun _ =>
  .op (.waitDma2 (dsem 2 k) (ownC d k) (ownC d k) (View.wordExact_bits rfl) (View.wordExact_bits rfl)) .ret

/-- A round per chunk, in order, then `p`. -/
def loop8 (f : Fin 8 → Pr F) (p : Pr F) : Pr F :=
  (f 0).bind fun _ => (f 1).bind fun _ => (f 2).bind fun _ => (f 3).bind fun _ =>
  (f 4).bind fun _ => (f 5).bind fun _ => (f 6).bind fun _ => (f 7).bind fun _ => p

/-- The body over the device it runs on. -/
def bodyOn (d : Dev nD) : Pr F :=
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  .op (.semWait barS 2) fun _ =>
  loop8 (fun k => xSend (xdev d k) k) <| loop8 (fun k => step d (ydev d k) k) <|
  loop8 (yWait d) <| loop8 (sent d) (.ret ⟨⟩)

set_option maxRecDepth 65536 in
set_option maxHeartbeats 4000000 in
/-- The printed body on its three buffers is the loops. -/
theorem body_eq (h0 h1 h2) : cc0_body (F := F) partM h0 outM h1 rcvM h2 cc0_scratch1 cc0_scratch2 cc0_scratch3 cc0_scratch4
    = .op .deviceId bodyOn := by
  rw [cc0_body_eq_skeleton]
  rfl

end Cert.Lookup

end
-- ==== Proof.Rows.lean ====
/-
# Chunks of rows

Every buffer of the kernel is cut into chunks of thirty-two whole rows. A points-to of a chunk is kept at the contents of
the WHOLE buffer, restricted to the chunk's elements: then a copy of a chunk, an addition of two chunks and a buffer put
together from its chunks are each one equation between whole contents on the chunk's rows.
-/
module

public import proofs.«01_k».proof.Proof.Clean
public import Idealize.ShloMosaic.Lib.Rounds
public import Idealize.ShloMosaic.Lib.Pipeline.Kit
public import Idealize.ShloMosaic.Lib.Tactic

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The neighbours -/

/-- The device across `x`, and the device across `y`. -/
def xp (c : Dev nD) : Dev nD := ⟨(c.val % 2 + 2) - 2 * (c.val / 2), by have := c.isLt; show _ < 4; omega⟩
def yp (c : Dev nD) : Dev nD := ⟨(2 * (c.val / 2) + 1) - c.val % 2, by have h : c.val < 4 := c.isLt; show _ < 4; omega⟩

/-- Each neighbour's neighbour is oneself. -/
theorem xp_xp (c : Dev nD) : xp (xp c) = c := by revert c; decide
theorem yp_yp (c : Dev nD) : yp (yp c) = c := by revert c; decide

/-- Which half of the result a device sums. -/
theorem half_xp (c : Dev nD) : (xp c).val % 2 = c.val % 2 := by revert c; decide
theorem half_yp (c : Dev nD) : (yp c).val % 2 = 1 - c.val % 2 := by revert c; decide

/-- The barrier's two signals go to the two neighbours. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)

/-- Every `x` copy goes across `x`, every `y` copy across `y`. -/
theorem xdev_eq (c : Dev nD) (k : Fin 8) : xdev c k = xp c := by
  fin_cases k
  exacts [Fin.ext (k0_dev3_eq c), Fin.ext (k0_dev4_eq c), Fin.ext (k0_dev5_eq c), Fin.ext (k0_dev6_eq c),
    Fin.ext (k0_dev7_eq c), Fin.ext (k0_dev8_eq c), Fin.ext (k0_dev9_eq c), Fin.ext (k0_dev10_eq c)]
theorem ydev_eq (c : Dev nD) (k : Fin 8) : ydev c k = yp c := by
  fin_cases k
  exacts [Fin.ext (k0_dev11_eq c), Fin.ext (k0_dev12_eq c), Fin.ext (k0_dev13_eq c), Fin.ext (k0_dev14_eq c),
    Fin.ext (k0_dev15_eq c), Fin.ext (k0_dev16_eq c), Fin.ext (k0_dev17_eq c), Fin.ext (k0_dev18_eq c)]

/-! ## The rows of a chunk -/

/-- The elements of thirty-two whole rows from row `lo` on, in an array of `n` rows. -/
def rows (n lo : ℕ) : Finset (Shape.Idx ⟨2, ![n, 512]⟩) :=
  Finset.univ.filter fun i => lo ≤ (i 0).val ∧ (i 0).val < lo + 32

theorem mem_rows {n lo : ℕ} {i : Shape.Idx ⟨2, ![n, 512]⟩} : i ∈ rows n lo ↔ lo ≤ (i 0).val ∧ (i 0).val < lo + 32 := by
  unfold rows; rw [Finset.mem_filter]; exact and_iff_right (Finset.mem_univ _)

/-- The first row of chunk `k` of half `h`. -/
abbrev lo (h : ℕ) (k : Fin 8) : ℕ := 256 * h + 32 * k.val

/-- A rectangle of thirty-two whole rows holds those rows' elements. -/
theorem rect_rows {n : ℕ} {off : Fin 2 → ℕ} {inb} {l : ℕ} (h : off = ![l, 0]) :
    (Rect.unit (s := ⟨2, ![n, 512]⟩) off S32x512.size inb).set = rows n l := by
  subst h
  ext i
  rw [Rect.mem_set_unit, mem_rows]
  refine ⟨fun H => H 0, fun H => Fin.forall_fin_two.mpr ⟨H, Nat.zero_le _, ?_⟩⟩
  have := (i 1).isLt
  show (i 1).val < 0 + 512
  simpa using this

theorem partC_set (k : Fin 8) : (partC k).view.set = rows 256 (32 * k.val) :=
  (View.set_slice_whole _ _).trans (rect_rows rfl)
theorem rcvC_set (k : Fin 8) : (rcvC k).view.set = rows 256 (32 * k.val) :=
  (View.set_slice_whole _ _).trans (rect_rows rfl)
theorem ownC_set (d : Dev nD) (k : Fin 8) : (ownC d k).view.set = rows 512 (lo (d.val % 2) k) :=
  (View.set_slice_whole _ _).trans (rect_rows (k0_off2_eq d k))
theorem storeR_set (d : Dev nD) (k : Fin 8) : (storeR d k).set = rows 512 (lo (d.val % 2) k) :=
  rect_rows (k0_off1_eq d k)

/-- Chunks of one array at different multiples of thirty-two share no row. -/
theorem rows_disjoint {n a b : ℕ} (h : a + 32 ≤ b ∨ b + 32 ≤ a) : Disjoint (rows n a) (rows n b) :=
  Finset.disjoint_left.mpr fun i hi hj => by rw [mem_rows] at hi hj; omega

/-- The eight chunks of an array of 256 rows are the array. -/
theorem rows_cover : (Finset.univ : Finset (Fin 8)).biUnion (fun k => rows 256 (32 * k.val)) = Finset.univ := by
  ext i
  rw [Finset.mem_biUnion]
  refine ⟨fun _ => Finset.mem_univ _, fun _ => ?_⟩
  have h : (i 0).val < 256 := (i 0).isLt
  exact ⟨⟨(i 0).val / 32, by omega⟩, Finset.mem_univ _, mem_rows.mpr ⟨by show 32 * ((i 0).val / 32) ≤ _; omega, by show _ < 32 * ((i 0).val / 32) + 32; omega⟩⟩

/-- The sixteen chunks of the two halves are the array of 512 rows. -/
theorem rows_cover2 (h : ℕ) (hh : h < 2) :
    ((Finset.univ : Finset (Fin 8)).biUnion fun k => rows 512 (lo h k)) ∪ ((Finset.univ : Finset (Fin 8)).biUnion fun k => rows 512 (lo (1 - h) k))
      = Finset.univ := by
  ext i
  rw [Finset.mem_union, Finset.mem_biUnion, Finset.mem_biUnion]
  refine ⟨fun _ => Finset.mem_univ _, fun _ => ?_⟩
  have hi : (i 0).val < 512 := (i 0).isLt
  have key : ∀ g : ℕ, (i 0).val / 256 = g → ∃ k : Fin 8, k ∈ Finset.univ ∧ i ∈ rows 512 (lo g k) := fun g hg =>
    ⟨⟨(i 0).val % 256 / 32, by omega⟩, Finset.mem_univ _,
      mem_rows.mpr ⟨by show 256 * g + 32 * ((i 0).val % 256 / 32) ≤ _; omega, by show _ < 256 * g + 32 * ((i 0).val % 256 / 32) + 32; omega⟩⟩
  rcases Nat.lt_or_ge ((i 0).val) 256 with hl | hl
  · rcases Nat.lt_or_ge h 1 with h1 | h1
    · exact Or.inl (key h (by omega))
    · exact Or.inr (key (1 - h) (by omega))
  · rcases Nat.lt_or_ge h 1 with h1 | h1
    · exact Or.inr (key (1 - h) (by omega))
    · exact Or.inl (key h (by omega))

theorem halves_disjoint (h : ℕ) (hh : h < 2) :
    Disjoint ((Finset.univ : Finset (Fin 8)).biUnion fun k => rows 512 (lo h k)) ((Finset.univ : Finset (Fin 8)).biUnion fun k => rows 512 (lo (1 - h) k)) := by
  rw [Finset.disjoint_biUnion_left]
  intro k _
  rw [Finset.disjoint_biUnion_right]
  intro k' _
  exact rows_disjoint (by show 256 * h + 32 * k.val + 32 ≤ 256 * (1 - h) + 32 * k'.val ∨ 256 * (1 - h) + 32 * k'.val + 32 ≤ 256 * h + 32 * k.val; omega)

/-! ## What the result holds -/

variable (P : Dev nD → FVec F S256x512 .f32)

/-- Row `r` of the 256 as an index. -/
abbrev at256 (r : ℕ) (j : Fin 512) : S256x512.Idx := fun a => match a with
  | ⟨0, _⟩ => ⟨r % 256, Nat.mod_lt _ (by decide)⟩
  | ⟨1, _⟩ => j

/-- The device of `c`'s `x` coordinate that sums row `r`. -/
def summer (c : Dev nD) (r : ℕ) : Dev nD := ⟨2 * (c.val / 2) + (r / 256) % 2, by have h : c.val < 4 := c.isLt; show _ < 4; omega⟩

/-- Device `c`'s result: at every row, the partial rows of the device of its `x` coordinate that sums the row plus those
    of that device's neighbour across `x`. -/
def OUT (c : Dev nD) : FVec F S512x512 .f32 := fun i =>
  addf (P (summer c (i 0).val)) (P (xp (summer c (i 0).val))) (at256 (i 0).val (i 1))

theorem summer_yp (c : Dev nD) (r : ℕ) : summer (yp c) r = summer c r := by
  refine Fin.ext ?_
  show 2 * ((yp c).val / 2) + _ = 2 * (c.val / 2) + _
  have : (yp c).val / 2 = c.val / 2 := by revert c; decide
  rw [this]

/-- The two devices across `y` end with one result. -/
theorem OUT_yp (c : Dev nD) : OUT P (yp c) = OUT P c := by
  funext i; unfold OUT; rw [summer_yp]

/-- In its own half a device is itself the one that sums. -/
theorem summer_own (c : Dev nD) (r : ℕ) (h : r / 256 = c.val % 2) : summer c r = c := by
  refine Fin.ext ?_
  show 2 * (c.val / 2) + (r / 256) % 2 = c.val
  omega

/-! ## A copy of a chunk, and a store of one -/

/-- What a copy of chunk `k` of the partial rows `fs` leaves on chunk `k` of the buffer it lands in: `fs`. -/
theorem copyX_at (k : Fin 8) (fd fs : FVec F S256x512 .f32) :
    ∀ i ∈ rows 256 (32 * k.val), (rcvC k).view.write (Elt F) fd ((partC k).view.read (Elt F) fs) Finset.univ i = fs i := by
  intro i hi
  rw [← rcvC_set] at hi
  obtain ⟨x, -, rfl⟩ := Finset.mem_map.mp hi
  rw [View.write_emb_of_mem _ _ (Finset.mem_univ x)]
  rfl

/-- What a copy of a chunk of the result `fs` leaves on the same chunk of the neighbour's: `fs`. -/
theorem copyY_at (d : Dev nD) (k : Fin 8) (fd fs : FVec F S512x512 .f32) :
    ∀ i ∈ rows 512 (lo (d.val % 2) k), (ownC d k).view.write (Elt F) fd ((ownC d k).view.read (Elt F) fs) Finset.univ i = fs i := by
  intro i hi
  rw [← ownC_set] at hi
  obtain ⟨x, -, rfl⟩ := Finset.mem_map.mp hi
  rw [View.write_emb_of_mem _ _ (Finset.mem_univ x)]
  rfl

/-- The sum a device stores in chunk `k` of its half of the result is the result there. -/
theorem store_at (c : Dev nD) (k : Fin 8) (fd : FVec F S512x512 .f32) :
    ∀ i ∈ rows 512 (lo (c.val % 2) k),
      (outM.access (storeR c k)).write (Elt F) fd
        (k0_pay1 (partM.view.readAt (Elt F) (rowsR k).toLoadRect (P c)) (rcvM.view.readAt (Elt F) (rowsR k).toLoadRect (P (xp c))))
        Finset.univ i = OUT P c i := by
  intro i hi
  rw [← storeR_set] at hi
  have hi : i ∈ ((View.whole cc0_stg1_0).slice (storeR c k)).set := (View.set_slice_whole cc0_stg1_0 (storeR c k)).symm ▸ hi
  obtain ⟨x, -, rfl⟩ := Finset.mem_map.mp hi
  rw [View.write_emb_of_mem _ _ (Finset.mem_univ x)]
  have h0 : ((((View.whole cc0_stg1_0).slice (storeR c k)).emb x) 0).val = lo (c.val % 2) k + (x 0).val := by
    show (k0_off1 c (BitVec.ofNat 32 (32 * k.val))) 0 + 1 * (x 0).val = _
    rw [k0_off1_eq, Nat.one_mul]; rfl
  have h1 : ((((View.whole cc0_stg1_0).slice (storeR c k)).emb x) 1).val = (x 1).val := by
    show (k0_off1 c (BitVec.ofNat 32 (32 * k.val))) 1 + 1 * (x 1).val = _
    rw [k0_off1_eq, Nat.one_mul]; exact Nat.zero_add _
  have hx : (x 0).val < 32 := (x 0).isLt
  unfold OUT
  rw [h0, summer_own c _ (by show (256 * (c.val % 2) + 32 * k.val + (x 0).val) / 256 = _; omega)]
  have hidx : at256 (lo (c.val % 2) k + (x 0).val) ((((View.whole cc0_stg1_0).slice (storeR c k)).emb x) 1) = (rowsR k).emb x := by
    funext a
    refine Fin.ext ?_
    match a with
    | ⟨0, _⟩ =>
      show (256 * (c.val % 2) + 32 * k.val + (x 0).val) % 256 = 32 * k.val + 1 * (x 0).val
      omega
    | ⟨1, _⟩ => exact h1.trans (by show _ = 0 + 1 * (x 1).val; omega)
  rw [hidx]
  show k0_pay1 _ _ x = _
  unfold k0_pay1
  rw [shapeCast_self]
  rfl

end Cert.Lookup

end
-- ==== Proof.Protocol.lean ====
/-
# The protocol between the four devices

A device owns one barrier cell and thirty-two cells of transfers, one for each kind and chunk: its `x` copies leaving and
arriving, its `y` copies leaving and arriving. Every cell has one round. The barrier's has two duties, one for each
neighbour: the neighbour across `x` lends the buffer it receives in, the neighbour across `y` lends its result's rows of
the waiting device's half; with each comes that the neighbour's arrival cells are open. Every other cell has one duty, a
transfer's credit, whose payload is the chunk it gives back or brings.
-/
module

public import proofs.«01_k».proof.Proof.Rows

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state and the protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## Cells and points-tos -/

/-- The barrier cell of device `c`, and its transfer cell of kind `j` and chunk `k`. -/
abbrev bar (c : Dev nD) : GSem nD τ sig := ((c : Thread nD τ), .reg barS)
abbrev cell (c : Dev nD) (j : Fin 4) (k : Fin 8) : GSem nD τ sig := ((c : Thread nD τ), .dma (dsem j k))

/-- What one chunk's transfer credits. -/
abbrev N : ℕ := (rcvC 0).view.dmaCredit
theorem N_pos : 0 < N := View.dmaCredit_pos _ (by decide)

/-- Chunk `k` of device `c`'s partial rows, of its receiving buffer, and of half `h` of its result. -/
def partPt (c : Dev nD) (k : Fin 8) (q : PosShare TreeShare) (f : FVec F S256x512 .f32) : sProp 𝕄 :=
  ((c : Thread nD τ).loc cc0_stg0_0) ↦[rows 256 (32 * k.val)]{q} f
def rcvPt (c : Dev nD) (k : Fin 8) (f : FVec F S256x512 .f32) : sProp 𝕄 :=
  ((c : Thread nD τ).loc cc0_scratch0) ↦[rows 256 (32 * k.val)]{fullShare} f
def outPt (c : Dev nD) (h : ℕ) (k : Fin 8) (f : FVec F S512x512 .f32) : sProp 𝕄 :=
  ((c : Thread nD τ).loc cc0_stg1_0) ↦[rows 512 (lo h k)]{fullShare} f

instance partPt_storable (c : Dev nD) (k) (q) (f : FVec F S256x512 .f32) : BI.Storable (upEmb : UEmb _ 𝕄) (partPt c k q f) := by unfold partPt; infer_instance
instance rcvPt_storable (c : Dev nD) (k) (f : FVec F S256x512 .f32) : BI.Storable (upEmb : UEmb _ 𝕄) (rcvPt c k f) := by unfold rcvPt; infer_instance
instance outPt_storable (c : Dev nD) (h) (k) (f : FVec F S512x512 .f32) : BI.Storable (upEmb : UEmb _ 𝕄) (outPt c h k f) := by unfold outPt; infer_instance

variable (P : Dev nD → FVec F S256x512 .f32)

/-! ## The schedule -/

/-- Lent to `c` by its `x` neighbour: that device's receiving buffer, and that its arrival cells are open. -/
def lentX (c : Dev nD) : sProp 𝕄 :=
  bigSep Finset.univ fun k : Fin 8 => iprop((∃ f, rcvPt (xp c) k f) ∗ reached ER (cell (xp c) 1 k) 0)
/-- Lent to `c` by its `y` neighbour: the rows of `c`'s half of that device's result, and that its arrival cells are open. -/
def lentY (c : Dev nD) : sProp 𝕄 :=
  bigSep Finset.univ fun k : Fin 8 => iprop((∃ f, outPt (yp c) (c.val % 2) k f) ∗ reached ER (cell (yp c) 3 k) 0)

/-- What the transfer counted on cell `j`, `k` of device `c` gives: the lent share of the partial rows' chunk back; the
    `x` neighbour's chunk; the own result's chunk back; the chunk of the other half. -/
def carried (c : Dev nD) (j : Fin 4) (k : Fin 8) : sProp 𝕄 := match j with
  | 0 => partPt c k fullShare.right (P c)
  | 1 => rcvPt c k (P (xp c))
  | 2 => outPt c (c.val % 2) k (OUT P c)
  | 3 => outPt c (1 - c.val % 2) k (OUT P c)

/-- Kind and chunk of a transfer semaphore. -/
def kindOf (s : DmaSem sig) : Fin 4 := ⟨(s.val - 2) / 8 % 4, Nat.mod_lt _ (by decide)⟩
def chunkOf (s : DmaSem sig) : Fin 8 := ⟨(s.val - 2) % 8, Nat.mod_lt _ (by decide)⟩
theorem kindOf_dsem (j : Fin 4) (k : Fin 8) : kindOf (dsem j k) = j :=
  Fin.ext (by show (2 + 8 * j.val + k.val - 2) / 8 % 4 = j.val; omega)
theorem chunkOf_dsem (j : Fin 4) (k : Fin 8) : chunkOf (dsem j k) = k :=
  Fin.ext (by show (2 + 8 * j.val + k.val - 2) % 8 = k.val; omega)

/-- One round everywhere: two duties of one unit on every barrier cell, one of a chunk's credit on every transfer cell. -/
def rd : Rounds.Schedule (GSem nD τ sig) Bool 𝕄 where
  duties g r := if r = 0 ∧ g.1.2 = .tc then (match g.2 with | .reg _ => Finset.univ | .dma _ => {true}) else ∅
  unitless _ := False
  amount g _ _ := match g.2 with | .reg _ => 1 | .dma _ => N
  payload g _ d := match g.2 with
    | .reg _ => if d then lentX g.1.1 else lentY g.1.1
    | .dma s => carried P g.1.1 (kindOf s) (chunkOf s)
  amount_pos g _ _ _ := by
    rcases g with ⟨t, s | s⟩
    · exact Nat.one_pos
    · exact N_pos

instance carried_storable (c : Dev nD) (j : Fin 4) (k : Fin 8) : BI.Storable (upEmb : UEmb _ 𝕄) (carried P c j k) := by
  unfold carried
  split <;> infer_instance

instance rd_payload_storable (g : GSem nD τ sig) (r : ℕ) (d : Bool) : BI.Storable (upEmb : UEmb _ 𝕄) ((rd P).payload g r d) := by
  rcases g with ⟨t, s | s⟩
  · show BI.Storable upEmb (if d then lentX t.1 else lentY t.1)
    unfold lentX lentY
    split <;> infer_instance
  · exact carried_storable P t.1 (kindOf s) (chunkOf s)

section Sched

variable (c : Dev nD) (j : Fin 4) (k : Fin 8)

theorem duties_bar : (rd P).duties (bar c) 0 = Finset.univ := by dsimp only [rd]; exact if_pos ⟨rfl, rfl⟩
theorem duties_cell : (rd P).duties (cell c j k) 0 = {true} := by dsimp only [rd]; exact if_pos ⟨rfl, rfl⟩
theorem duties_later (g : GSem nD τ sig) : ∀ r, 1 ≤ r → (rd P).duties g r = ∅ :=
  fun r hr => by dsimp only [rd]; exact if_neg fun h => by omega
theorem amount_bar (d : Bool) : (rd P).amount (bar c) 0 d = 1 := rfl
theorem amount_cell (d : Bool) : (rd P).amount (cell c j k) 0 d = N := rfl
theorem expect_bar : (rd P).expect (bar c) 0 = 2 := by
  unfold Schedule.expect Schedule.amountOf; rw [duties_bar]; rfl
theorem expect_cell : (rd P).expect (cell c j k) 0 = N := by
  unfold Schedule.expect Schedule.amountOf; rw [duties_cell, Finset.sum_singleton, amount_cell]
theorem payload_barX : (rd P).payload (bar c) 0 true = lentX c := by dsimp only [rd]; exact if_pos rfl
theorem payload_barY : (rd P).payload (bar c) 0 false = lentY c := by dsimp only [rd]; exact if_neg Bool.false_ne_true
theorem payload_cell (d : Bool) : (rd P).payload (cell c j k) 0 d = carried P c j k := by
  show carried P c (kindOf (dsem j k)) (chunkOf (dsem j k)) = _
  rw [kindOf_dsem, chunkOf_dsem]

omit [FloatOps F] in
/-- A separating conjunction over the two duties is its two parts. -/
theorem bigSep_duties (Φ : Bool → sProp 𝕄) : bigSep Finset.univ Φ = iprop(Φ true ∗ Φ false) :=
  bigSep_univ_eq_bigSepL [true, false] (by decide) (by decide) Φ

/-- What a device's wait on its barrier hands it. -/
theorem rest_bar : bigSep ((rd P).duties (bar c) 0 \ ∅) (fun d => (rd P).payload (bar c) 0 d) = iprop(lentX c ∗ lentY (F := F) c) := by
  rw [Finset.sdiff_empty, duties_bar, bigSep_duties, payload_barX, payload_barY]
/-- What a wait on a transfer cell hands. -/
theorem rest_cell : bigSep ((rd P).duties (cell c j k) 0 \ ∅) (fun d => (rd P).payload (cell c j k) 0 d) = carried P c j k := by
  rw [Finset.sdiff_empty, duties_cell, bigSep_singleton, payload_cell]

end Sched

/-! ## What a device owes, and the levels -/

/-- The credits device `c` owes the cells of kind `j` of device `d` for its chunks from `n` on. -/
def owing (d : Dev nD) (j : Fin 4) (n : ℕ) : CellTallies nD τ sig Unit :=
  ∑ k : Fin 8 with n ≤ k.val, tallyAt (cell d j k) () N

theorem owing_step (d : Dev nD) (j : Fin 4) (k : Fin 8) : owing d j k.val = owing d j (k.val + 1) + tallyAt (cell d j k) () N := by
  unfold owing
  have h : (Finset.univ.filter fun i : Fin 8 => k.val ≤ i.val) = insert k (Finset.univ.filter fun i : Fin 8 => k.val + 1 ≤ i.val) := by
    ext i
    rw [Finset.mem_insert, Finset.mem_filter, Finset.mem_filter, Fin.ext_iff]
    simp only [Finset.mem_univ, true_and]
    omega
  rw [h, Finset.sum_insert (by rw [Finset.mem_filter]; omega), add_comm]
theorem owing_end (d : Dev nD) (j : Fin 4) : owing d j 8 = 0 := by
  unfold owing
  rw [Finset.filter_false_of_mem fun k _ => by have := k.isLt; omega, Finset.sum_empty]

/-- From launch a device owes every chunk's arrival to both neighbours, and each a barrier unit. -/
def O₂ (c : Dev nD) (n m : ℕ) : CellTallies nD τ sig Unit := owing (yp c) 3 m + owing (xp c) 1 n
def O₀ (c : Dev nD) : CellTallies nD τ sig Unit := O₂ c 0 0 + tallyAt (bar (yp c)) () 1 + tallyAt (bar (xp c)) () 1

def L (g : GSem nD τ sig) : Finset Unit := if g.1.2 = .tc then {()} else ∅
/-- The barrier below the `x` arrivals, these below the `y` arrivals; everything else below all. -/
def lv (g : GSem nD τ sig) (_ : Unit) : ℕ := match g.2 with
  | .reg _ => 1
  | .dma s => if s.val < 2 then 0 else ![0, 2, 0, 3] (kindOf s)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Fin 4) (k : Fin 8) (u : Unit) : lv (cell c j k) u = ![0, 2, 0, 3] j := by
  show (if 2 + 8 * j.val + k.val < 2 then 0 else ![0, 2, 0, 3] (kindOf (dsem j k))) = _
  rw [if_neg (by omega), kindOf_dsem]

theorem tally_pos {g g' : GSem nD τ sig} {u : Unit} {n : ℕ} (h : 0 < tallyAt g' () n g u) : g = g' := by
  rw [tallyAt_apply] at h
  split at h
  · next hg => exact hg.1
  · exact absurd h (Nat.lt_irrefl 0)

/-- A cell that `owing` is positive at is one of those it names. -/
theorem owing_pos {d : Dev nD} {j : Fin 4} {n : ℕ} {g : GSem nD τ sig} {u : Unit} (h : 0 < owing d j n g u) : ∃ k, g = cell d j k := by
  unfold owing at h
  rw [Finset.sum_apply, Finsupp.finset_sum_apply] at h
  obtain ⟨k, -, hk⟩ := Finset.exists_ne_zero_of_sum_ne_zero (Nat.pos_iff_ne_zero.mp h)
  exact ⟨k, tally_pos (Nat.pos_of_ne_zero hk)⟩

theorem O₂_pos {c : Dev nD} {n m : ℕ} {g : GSem nD τ sig} {u : Unit} (h : 0 < O₂ c n m g u) :
    (∃ k, g = cell (yp c) 3 k) ∨ ∃ k, g = cell (xp c) 1 k := by
  unfold O₂ at h
  rw [Pi.add_apply, Finsupp.add_apply] at h
  exact (Nat.add_pos_iff_pos_or_pos.mp h).imp owing_pos owing_pos

theorem O₀_pos {c : Dev nD} {g : GSem nD τ sig} {u : Unit} (h : 0 < O₀ c g u) :
    ((∃ k, g = cell (yp c) 3 k) ∨ ∃ k, g = cell (xp c) 1 k) ∨ g = bar (yp c) ∨ g = bar (xp c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact .inl (O₂_pos h)
    · exact .inr (.inl (tally_pos h))
  · exact .inr (.inr (tally_pos h))

/-- A device may wait on its barrier while it owes arrivals, -/
theorem mayWait_bar (c : Dev nD) : (levAts L lv : sProp 𝕄) ⊢ MayWait (c : Thread nD τ) (.reg barS) () (O₂ c 0 0) :=
  MayOwe.of_cut (L := L) (lev := lv) 1 (fun p hp => by rw [Finset.mem_singleton.mp hp, L_tc]; exact Finset.mem_singleton_self _)
    (fun g u hg => by rcases O₂_pos hg with ⟨k, rfl⟩ | ⟨k, rfl⟩ <;> (rw [L_tc]; exact Finset.mem_singleton_self _))
    (fun p hp => by rw [Finset.mem_singleton.mp hp]; exact le_refl 1)
    (fun g u hg => by rcases O₂_pos hg with ⟨k, rfl⟩ | ⟨k, rfl⟩ <;> (rw [lv_cell]; decide))

/-- and on an `x` arrival while it owes `y` arrivals alone. -/
theorem mayWait_x (c : Dev nD) (k : Fin 8) (m : ℕ) :
    (levAts L lv : sProp 𝕄) ⊢ MayWait (c : Thread nD τ) (.dma (dsem 1 k)) () (O₂ c 8 m) :=
  MayOwe.of_cut (L := L) (lev := lv) 2 (fun p hp => by rw [Finset.mem_singleton.mp hp, L_tc]; exact Finset.mem_singleton_self _)
    (fun g u hg => by rcases O₂_pos hg with ⟨k, rfl⟩ | ⟨k, rfl⟩ <;> (rw [L_tc]; exact Finset.mem_singleton_self _))
    (fun p hp => by rw [Finset.mem_singleton.mp hp]; exact (lv_cell c 1 k ()).le)
    (fun g u hg => by
      unfold O₂ at hg
      rw [owing_end, add_zero] at hg
      obtain ⟨k', rfl⟩ := owing_pos hg
      rw [lv_cell]; decide)

/-! ## The ghost state -/

/-- Every cell's invariant, at the names the launch allocated them at, and that every barrier is open. -/
def records (K : GSem nD τ sig → ℕ) : sProp 𝕄 :=
  iprop((bigSep Finset.univ fun c : Dev nD => iprop(cellInv ER (rd P) (K (bar c)) (bar c) ∗ reached ER (bar c) 0))
    ∗ bigSep Finset.univ fun x : Dev nD × Fin 4 × Fin 8 => cellInv ER (rd P) (K (cell x.1 x.2.1 x.2.2)) (cell x.1 x.2.1 x.2.2))
instance records_persistent (K : GSem nD τ sig → ℕ) : BI.Persistent (records P K) := by unfold records; infer_instance

theorem inv_bar (K : GSem nD τ sig → ℕ) (c : Dev nD) :
    records P K ⊢ iprop(cellInv ER (rd P) (K (bar c)) (bar c) ∗ reached ER (bar c) 0) := by
  unfold records
  exact sep_elim_left.trans (show _ ⊢ _ from bigSep_elim (Φ := fun c : Dev nD => iprop(cellInv ER (rd P) (K (bar c)) (bar c) ∗ reached ER (bar c) 0)) (Finset.mem_univ c))
theorem inv_cell (K : GSem nD τ sig → ℕ) (c : Dev nD) (j : Fin 4) (k : Fin 8) :
    records P K ⊢ cellInv ER (rd P) (K (cell c j k)) (cell c j k) := by
  unfold records
  exact sep_elim_right.trans (show _ ⊢ _ from bigSep_elim
    (Φ := fun x : Dev nD × Fin 4 × Fin 8 => cellInv ER (rd P) (K (cell x.1 x.2.1 x.2.2)) (cell x.1 x.2.1 x.2.2)) (Finset.mem_univ (c, j, k)))

/-- The device whose cells of kind `j` device `c`'s transfers pay. -/
def dest (c : Dev nD) (j : Fin 4) : Dev nD := ![c, xp c, c, yp c] j

/-- What device `c` is dealt at launch: its place at its barrier, the right to open its transfer cells, and the tokens of
    the duties it pays. -/
def dealt (c : Dev nD) : sProp 𝕄 :=
  iprop(atPos ER (bar c) 0 ∅ 0
    ∗ (bigSep Finset.univ fun x : Fin 4 × Fin 8 => openTok ER (cell c x.1 x.2))
    ∗ dutyTok ER (bar (xp c)) 0 true ∗ dutyTok ER (bar (yp c)) 0 false
    ∗ bigSep Finset.univ fun x : Fin 4 × Fin 8 => dutyTok ER (cell (dest c x.1) x.1 x.2) 0 true)

/-- The credits it waits with. -/
def creds (c : Dev nD) : sProp 𝕄 :=
  iprop(cred (tallyAt (bar c) () 2) ∗ (bigSep Finset.univ fun k : Fin 8 => cred (tallyAt (cell c 1 k) () N))
    ∗ bigSep Finset.univ fun k : Fin 8 => cred (tallyAt (cell c 3 k) () N))

/-- The same once its transfer cells are open. -/
def opened (c : Dev nD) : sProp 𝕄 :=
  iprop(atPos ER (bar c) 0 ∅ 0
    ∗ (bigSep Finset.univ fun x : Fin 4 × Fin 8 => iprop(atPos ER (cell c x.1 x.2) 0 ∅ 0 ∗ reached ER (cell c x.1 x.2) 0))
    ∗ dutyTok ER (bar (xp c)) 0 true ∗ dutyTok ER (bar (yp c)) 0 false
    ∗ bigSep Finset.univ fun x : Fin 4 × Fin 8 => dutyTok ER (cell (dest c x.1) x.1 x.2) 0 true)

end Cert.Lookup

end
-- ==== Proof.Rounds.lean ====
/-
# One round of each loop

What one chunk's round takes and gives, for each of the kernel's four loops, and the loop rule that runs eight of them.
-/
module

public import proofs.«01_k».proof.Proof.Protocol

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Eight rounds -/

/-- The chunks from `n` on. -/
def from8 (n : ℕ) : Finset (Fin 8) := Finset.univ.filter fun k => n ≤ k.val

theorem from8_step (k : Fin 8) : from8 k.val = insert k (from8 (k.val + 1)) := by
  ext i
  unfold from8
  rw [Finset.mem_insert, Finset.mem_filter, Finset.mem_filter, Fin.ext_iff]
  simp only [Finset.mem_univ, true_and]
  omega
theorem not_mem_from8 (k : Fin 8) : k ∉ from8 (k.val + 1) := by
  unfold from8; rw [Finset.mem_filter]; omega
theorem from8_zero : from8 0 = Finset.univ := Finset.filter_true_of_mem fun _ _ => Nat.zero_le _
theorem from8_end : from8 8 = ∅ := Finset.filter_false_of_mem fun k _ => by have := k.isLt; omega

omit [FloatOps F] in
/-- Over the chunks from one on: that chunk's part and the later ones'. -/
theorem bigSep_from8 (k : Fin 8) (Φ : Fin 8 → sProp 𝕄) :
    bigSep (from8 k.val) Φ = iprop(Φ k ∗ bigSep (from8 (k.val + 1)) Φ) := by
  rw [from8_step]; exact BI.bigSep_insert (not_mem_from8 k)

/-- The last `n` rounds of a loop, then `p`. -/
def lastRounds (f : Fin 8 → Pr F) (p : Pr F) : (n : ℕ) → Pr F
  | 0 => p
  | n + 1 => (f ⟨7 - n, by omega⟩).bind fun _ => lastRounds f p n

/-- The loop rule: what every round takes and gives one after another is what the whole loop takes and gives. `R` is known
    throughout; `S k` is the state before round `k`. -/
theorem loop8_run (c : Dev nD) (f : Fin 8 → Pr F) (p : Pr F) (R : sProp 𝕄) [BI.Persistent R] (A B : Fin 8 → sProp 𝕄) (S : ℕ → sProp 𝕄)
    (h : ∀ k (Q : PUnit → sProp 𝕄), iprop(R ∗ A k ∗ S k.val ∗ (iprop(B k ∗ S (k.val + 1)) -∗ Q ⟨⟩))
      ⊢ wp frame (wpE (defs₀ (F := F)) 𝒱₀ c none) Set.univ (f k) Q) (Q : PUnit → sProp 𝕄) :
    iprop(R ∗ bigSep Finset.univ A ∗ S 0 ∗ (iprop(bigSep Finset.univ B ∗ S 8) -∗ wp frame (wpE (defs₀ (F := F)) 𝒱₀ c none) Set.univ p Q))
      ⊢ wp frame (wpE (defs₀ (F := F)) 𝒱₀ c none) Set.univ (loop8 f p) Q := by
  have key : ∀ n, n ≤ 8 →
      iprop(R ∗ bigSep (from8 (8 - n)) A ∗ S (8 - n)
        ∗ (iprop(bigSep (from8 (8 - n)) B ∗ S 8) -∗ wp frame (wpE (defs₀ (F := F)) 𝒱₀ c none) Set.univ p Q))
        ⊢ wp frame (wpE (defs₀ (F := F)) 𝒱₀ c none) Set.univ (lastRounds f p n) Q := by
    intro n
    induction n with
    | zero =>
      intro _
      rw [Nat.sub_zero, from8_end, bigSep_empty]
      iintro ⟨-, -, HS, Hk⟩
      iapply Hk
      isplitr; · iempintro
      iexact HS
    | succ n ih =>
      intro hn
      have e : 8 - (n + 1) = (⟨7 - n, by omega⟩ : Fin 8).val := by show _ = 7 - n; omega
      have e' : (⟨7 - n, by omega⟩ : Fin 8).val + 1 = 8 - n := by show 7 - n + 1 = _; omega
      rw [e, bigSep_from8 _ A, bigSep_from8 _ B, e']
      show _ ⊢ wp _ _ _ (f ⟨7 - n, _⟩ >>= fun _ => lastRounds f p n) Q
      rw [wp_bind]
      iintro ⟨#HR, ⟨HA, HAs⟩, HS, Hk⟩
      iapply (h ⟨7 - n, _⟩ (fun _ => wp frame (wpE (defs₀ (F := F)) 𝒱₀ c none) Set.univ (lastRounds f p n) Q))
      rw [e']
      isplitr; · iexact HR
      isplitl [HA]; · iexact HA
      isplitl [HS]; · iexact HS
      iintro ⟨HB, HS⟩
      iapply (ih (by omega))
      isplitr; · iexact HR
      isplitl [HAs]; · iexact HAs
      isplitl [HS]; · iexact HS
      iintro ⟨HBs, HS⟩
      iapply Hk
      isplitl [HB HBs]
      · isplitl [HB]; · iexact HB
        iexact HBs
      iexact HS
  have := key 8 le_rfl
  rw [Nat.sub_self, from8_zero] at this
  exact this

/-! ## The rounds -/

variable (P : Dev nD → FVec F S256x512 .f32)

/-- A chunk's points-to is the one over its view. -/
theorem partPt_eq (c : Dev nD) (k : Fin 8) (q : PosShare TreeShare) (f : FVec F S256x512 .f32) :
    partPt c k q f = ((partC k).view.loc (c : Thread nD τ) ↦[(partC k).view.set]{q} f : sProp 𝕄) := by
  rw [partC_set]; rfl
theorem rcvPt_eq (c : Dev nD) (k : Fin 8) (f : FVec F S256x512 .f32) :
    rcvPt c k f = ((rcvC k).view.loc (c : Thread nD τ) ↦[(rcvC k).view.set]{fullShare} f : sProp 𝕄) := by
  rw [rcvC_set]; rfl
/-- Of the result, the one over the view of the device `d` whose half it is in. -/
theorem outPt_eq (c d : Dev nD) (h : ℕ) (hd : d.val % 2 = h) (k : Fin 8) (f : FVec F S512x512 .f32) :
    outPt c h k f = ((ownC d k).view.loc (c : Thread nD τ) ↦[(ownC d k).view.set]{fullShare} f : sProp 𝕄) := by
  rw [ownC_set, hd]; rfl

/-- Owing `O` after some waits. -/
def owesW (c : Dev nD) (O : CellTallies nD τ sig Unit) : sProp 𝕄 := iprop(∃ W, owes (c : Thread nD τ) O W)

omit [FloatOps F] in
theorem O₂_x (c : Dev nD) (k : Fin 8) (m : ℕ) : O₂ c k.val m = O₂ c (k.val + 1) m + tallyAt (cell (xp c) 1 k) () N := by
  unfold O₂; rw [owing_step, add_assoc]
omit [FloatOps F] in
theorem O₂_y (c : Dev nD) (k : Fin 8) (n : ℕ) : O₂ c n k.val = O₂ c n (k.val + 1) + tallyAt (cell (yp c) 3 k) () N := by
  unfold O₂; rw [owing_step, add_right_comm]
omit [FloatOps F] in
theorem O₂_end (c : Dev nD) : O₂ c 8 8 = 0 := by
  unfold O₂; rw [owing_end, owing_end, add_zero]

/-- What every round may use: the cells' invariants and the levels. -/
def known (K : GSem nD τ sig → ℕ) : sProp 𝕄 := iprop(records P K ∗ levAts L lv)
instance known_persistent (K : GSem nD τ sig → ℕ) : BI.Persistent (known P K) := by unfold known; infer_instance

/-- What the sending of a chunk along `x` takes: a share of the partial rows' chunk, the neighbour's chunk to fill, and
    the tokens of the two duties it pays. -/
def xSendTakes (c : Dev nD) (k : Fin 8) : sProp 𝕄 :=
  iprop(partPt c k fullShare.right (P c) ∗ iprop((∃ f, rcvPt (xp c) k f) ∗ reached ER (cell (xp c) 1 k) 0)
    ∗ reached ER (cell c 0 k) 0 ∗ dutyTok ER (cell c 0 k) 0 true ∗ dutyTok ER (cell (xp c) 1 k) 0 true)

theorem xSend_run (K : GSem nD τ sig → ℕ) (c : Dev nD) (k : Fin 8) (Q : PUnit → sProp 𝕄) :
    iprop(known P K ∗ xSendTakes P c k ∗ owesW c (O₂ c k.val 0)
        ∗ (iprop(cred (tallyAt (cell c 0 k) () N) ∗ owesW c (O₂ c (k.val + 1) 0)) -∗ Q ⟨⟩))
      ⊢ wp frame (wpE (defs₀ (F := F)) 𝒱₀ c none) Set.univ (xSend (xp c) k) Q := by
  unfold known xSendTakes owesW xSend
  simp only [partPt_eq, rcvPt_eq]
  iintro ⟨⟨#HI, #Hlev⟩, ⟨Hx, ⟨⟨%fn, Hr⟩, #Hrx⟩, #Hrs, Hts, Htx⟩, ⟨%W, HO⟩, Hk⟩
  iapply (Rounds.wp_send_pointsTo 𝒱₀ ER (rd P) (c : Thread nD τ) none (c' := (xp c : Thread nD τ)) (src := partC k) (dst := rcvC k)
      (sS := .dma (dsem 0 k)) (sem := .dma (dsem 1 k)) (q := fullShare.right) (fs := P c) (fd := fn) (κ₁ := K (cell c 0 k)) (κ₂ := K (cell (xp c) 1 k))
      (r₁ := 0) (r₂ := 0) (d₁ := true) (d₂ := true)
      (by rw [duties_cell]; exact Finset.mem_singleton_self _) (by rw [duties_cell]; exact Finset.mem_singleton_self _)
      () () N rfl (amount_cell P c 0 k true) (amount_cell P (xp c) 1 k true) (O₂ c (k.val + 1) 0) (O₂_x c k 0) (W := W)
      (by rw [payload_cell]; exact Entails.of_eq (partPt_eq c k fullShare.right (P c)).symm)
      (by
        rw [payload_cell]
        show _ ⊢ rcvPt (xp c) k (P (xp (xp c)))
        rw [xp_xp, rcvC_set]
        exact Entails.of_eq (pointsTo_congr (copyX_at k fn (P c))))) $$ [Hx Hr HO Hts Htx]
  · isplitr; · iapply (inv_cell P K c 0 k); iexact HI
    isplitr; · iapply (inv_cell P K (xp c) 1 k); iexact HI
    isplitl [Hx]; · iexact Hx
    isplitl [Hr]; · iexact Hr
    isplitl [HO]; · iexact HO
    isplitl [Hts]; · iexact Hts
    isplitr; · iexact Hrs
    isplitl [Htx]; · iexact Htx
    iexact Hrx
  iintro ⟨Hc, HO⟩
  rw [wp_ret]
  imodintro
  iapply Hk
  isplitl [Hc]; · iexact Hc
  iexists W; iexact HO

/-- A round's wait for its transfer on cell `j`, `k`: given the credit and the place, what the transfer carried. -/
theorem wait_run (K : GSem nD τ sig → ℕ) (c : Dev nD) (j : Fin 4) (k : Fin 8) (O : CellTallies nD τ sig Unit)
    (hO : (levAts L lv : sProp 𝕄) ⊢ MayWait (c : Thread nD τ) (.dma (dsem j k)) () O)
    (src dst : Memref sig .tc .vmem S32x512 .f32) (hN : dst.view.dmaCredit = N) {hs : src.view.WordExact} {hd : dst.view.WordExact}
    (p : PUnit → Pr F) (Q : PUnit → sProp 𝕄) :
    iprop(known P K ∗ cred (tallyAt (cell c j k) () N) ∗ atPos ER (cell c j k) 0 ∅ 0 ∗ owesW c O
        ∗ (iprop(carried P c j k ∗ atPos ER (cell c j k) (0 + 1) ∅ 0 ∗ owesW c O)
            -∗ wp frame (wpE (defs₀ (F := F)) 𝒱₀ c none) Set.univ (p ⟨⟩) Q))
      ⊢ wp frame (wpE (defs₀ (F := F)) 𝒱₀ c none) Set.univ (.op (.waitDma2 (dsem j k) src dst hs hd) p) Q := by
  unfold known owesW
  rw [← hN]
  iintro ⟨⟨#HI, #Hlev⟩, Hc, Ha, ⟨%W, HO⟩, Hk⟩
  iapply (Rounds.wp_wait_rest_token 𝒱₀ ER (rd P) (c : Thread nD τ) none (κ := K (cell c j k))
      (wpE_waitDma2_eq 𝒱₀ (c : Thread nD τ) none Set.univ) (Set.mem_univ _) () (O := O) (W := W)
      (R := 0) (m := 0) (T := ∅) ((Nat.zero_add _).trans (hN.trans (expect_cell P c j k).symm))) $$ [Hc HO Ha]
  · isplitr; · iapply (inv_cell P K c j k); iexact HI
    isplitl [Hc]; · iexact Hc
    isplitl [HO]; · iexact HO
    isplitr; · iapply hO; iexact Hlev
    iexact Ha
  iintro ⟨HO, Ha, -, Hp⟩
  iapply Hk
  isplitl [Hp]; · iapply (Entails.of_eq (rest_cell P c j k)); iexact Hp
  isplitl [Ha]; · iexact Ha
  iexists _; iexact HO

/-- The elements a round loads and stores are its chunk's. -/
theorem rows_load (k : Fin 8) : (View.whole cc0_stg0_0).setOn (rowsR k).toLoadRect.set ⊆ rows 256 (32 * k.val) := by
  intro i hi
  obtain ⟨x, hx, rfl⟩ := Finset.mem_map.mp hi
  rw [← rect_rows (n := 256) (off := ![32 * k.val, 0]) (inb := rowsInb k) rfl]
  exact hx
theorem out_load (c : Dev nD) (k : Fin 8) : (View.whole cc0_stg1_0).setOn (storeR c k).toLoadRect.set ⊆ rows 512 (lo (c.val % 2) k) := by
  intro i hi
  obtain ⟨x, hx, rfl⟩ := Finset.mem_map.mp hi
  rw [← storeR_set]
  exact hx
theorem out_store (c : Dev nD) (k : Fin 8) : (outM.access (storeR c k)).setOn Finset.univ ⊆ rows 512 (lo (c.val % 2) k) := by
  rw [← storeR_set, ← View.set_slice_whole cc0_stg1_0 (storeR c k)]
  exact subset_rfl

/-- The chunk of the result a round has stored. -/
theorem stored_eq (c : Dev nD) (k : Fin 8) (fd : FVec F S512x512 .f32) :
    ((outM.access (storeR c k)).loc (c : Thread nD τ) ↦[rows 512 (lo (c.val % 2) k)]{fullShare}
        (outM.access (storeR c k)).write (Elt F) fd
          (k0_pay1 (partM.view.readAt (Elt F) (rowsR k).toLoadRect (P c)) (rcvM.view.readAt (Elt F) (rowsR k).toLoadRect (P (xp c))))
          Finset.univ : sProp 𝕄)
      = outPt c (c.val % 2) k (OUT P c) :=
  pointsTo_congr (store_at P c k fd)

/-- What a round of the middle loop takes: the credit of the neighbour's chunk and the place to wait for it, a share of
    the own partial rows' chunk, the own result's chunk and the `y` neighbour's to fill, and the tokens of the two duties
    it pays. -/
def stepTakes (c : Dev nD) (k : Fin 8) : sProp 𝕄 :=
  iprop(cred (tallyAt (cell c 1 k) () N) ∗ atPos ER (cell c 1 k) 0 ∅ 0 ∗ partPt c k fullShare.left (P c)
    ∗ (∃ f, outPt c (c.val % 2) k f) ∗ iprop((∃ f, outPt (yp c) (c.val % 2) k f) ∗ reached ER (cell (yp c) 3 k) 0)
    ∗ reached ER (cell c 2 k) 0 ∗ dutyTok ER (cell c 2 k) 0 true ∗ dutyTok ER (cell (yp c) 3 k) 0 true)
/-- And gives. -/
def stepGives (c : Dev nD) (k : Fin 8) : sProp 𝕄 :=
  iprop(atPos ER (cell c 1 k) (0 + 1) ∅ 0 ∗ partPt c k fullShare.left (P c) ∗ rcvPt c k (P (xp c)) ∗ cred (tallyAt (cell c 2 k) () N))

theorem step_run (K : GSem nD τ sig → ℕ) (c : Dev nD) (k : Fin 8) (Q : PUnit → sProp 𝕄) :
    iprop(known P K ∗ stepTakes P c k ∗ owesW c (O₂ c 8 k.val)
        ∗ (iprop(stepGives P c k ∗ owesW c (O₂ c 8 (k.val + 1))) -∗ Q ⟨⟩))
      ⊢ wp frame (wpE (defs₀ (F := F)) 𝒱₀ c none) Set.univ (step c (yp c) k) Q := by
  unfold stepTakes stepGives step
  iintro ⟨#HK, ⟨Hc, Ha, Hx, ⟨%fo, Ho⟩, ⟨⟨%fn, Hn⟩, #Hry⟩, #Hrs, Hts, Hty⟩, HO, Hk⟩
  iapply (wait_run P K c 1 k (O₂ c 8 k.val) (mayWait_x c k k.val) (partC k) (rcvC k) rfl)
  isplitr; · iexact HK
  isplitl [Hc]; · iexact Hc
  isplitl [Ha]; · iexact Ha
  isplitl [HO]; · iexact HO
  iintro ⟨Hr, Ha, HO⟩
  ihave Hr := (show carried P c 1 k ⊢ rcvPt c k (P (xp c)) from .rfl) $$ Hr
  unfold partPt
  iapply (wp_load 𝒱₀ (c : Thread nD τ) none Set.univ (m := partM) (S := rows 256 (32 * k.val)) (rows_load k)) $$ Hx
  iintro Hx
  unfold rcvPt
  iapply (wp_load 𝒱₀ (c : Thread nD τ) none Set.univ (m := rcvM) (S := rows 256 (32 * k.val)) (rows_load k)) $$ Hr
  iintro Hr
  ihave Ho := (show outPt c (c.val % 2) k fo ⊢ ((c : Thread nD τ).loc cc0_stg1_0 ↦[rows 512 (lo (c.val % 2) k)]{fullShare} fo) from .rfl) $$ Ho
  iapply (wp_load 𝒱₀ (c : Thread nD τ) none Set.univ (m := outM) (S := rows 512 (lo (c.val % 2) k)) (out_load c k)) $$ Ho
  iintro Ho
  iapply (wp_store 𝒱₀ (c : Thread nD τ) none Set.univ (m := outM) (r := storeR c k) (Mk := Finset.univ) (S := rows 512 (lo (c.val % 2) k)) (out_store c k)) $$ Ho
  iintro Ho
  ihave Ho := (Entails.of_eq (stored_eq P c k fo)) $$ Ho
  unfold owesW
  icases HO with ⟨%W, HO⟩
  ihave Ho := (Entails.of_eq (outPt_eq c c (c.val % 2) rfl k (OUT P c))) $$ Ho
  ihave Hn := (Entails.of_eq (outPt_eq (yp c) c (c.val % 2) rfl k fn)) $$ Hn
  unfold known
  icases HK with ⟨#HI, #Hlev⟩
  iapply (Rounds.wp_send_pointsTo 𝒱₀ ER (rd P) (c : Thread nD τ) none (c' := (yp c : Thread nD τ)) (src := ownC c k) (dst := ownC c k)
      (sS := .dma (dsem 2 k)) (sem := .dma (dsem 3 k)) (q := fullShare) (fs := OUT P c) (fd := fn) (κ₁ := K (cell c 2 k)) (κ₂ := K (cell (yp c) 3 k))
      (r₁ := 0) (r₂ := 0) (d₁ := true) (d₂ := true)
      (by rw [duties_cell]; exact Finset.mem_singleton_self _) (by rw [duties_cell]; exact Finset.mem_singleton_self _)
      () () N rfl (amount_cell P c 2 k true) (amount_cell P (yp c) 3 k true) (O₂ c 8 (k.val + 1)) (O₂_y c k 8) (W := W)
      (by rw [payload_cell]; exact Entails.of_eq (outPt_eq c c (c.val % 2) rfl k (OUT P c)).symm)
      (by
        rw [payload_cell]
        show _ ⊢ outPt (yp c) (1 - (yp c).val % 2) k (OUT P (yp c))
        rw [OUT_yp, outPt_eq (yp c) c (1 - (yp c).val % 2) (by rw [half_yp]; omega), ownC_set]
        exact Entails.of_eq (pointsTo_congr (copyY_at c k fn (OUT P c))))) $$ [Ho Hn HO Hts Hty]
  · isplitr; · iapply (inv_cell P K c 2 k); iexact HI
    isplitr; · iapply (inv_cell P K (yp c) 3 k); iexact HI
    isplitl [Ho]; · iexact Ho
    isplitl [Hn]; · iexact Hn
    isplitl [HO]; · iexact HO
    isplitl [Hts]; · iexact Hts
    isplitr; · iexact Hrs
    isplitl [Hty]; · iexact Hty
    iexact Hry
  iintro ⟨Hc, HO⟩
  rw [wp_ret]
  imodintro
  iapply Hk
  isplitr [HO]
  · isplitl [Ha]; · iexact Ha
    isplitl [Hx]; · iexact Hx
    isplitl [Hr]; · iexact Hr
    iexact Hc
  iexists W; iexact HO

/-- A wait for the other half's chunk. -/
theorem yWait_run (K : GSem nD τ sig → ℕ) (c : Dev nD) (k : Fin 8) (Q : PUnit → sProp 𝕄) :
    iprop(known P K ∗ iprop(cred (tallyAt (cell c 3 k) () N) ∗ atPos ER (cell c 3 k) 0 ∅ 0) ∗ owesW c 0
        ∗ (iprop(iprop(outPt c (1 - c.val % 2) k (OUT P c) ∗ atPos ER (cell c 3 k) (0 + 1) ∅ 0) ∗ owesW c 0) -∗ Q ⟨⟩))
      ⊢ wp frame (wpE (defs₀ (F := F)) 𝒱₀ c none) Set.univ (yWait c k) Q := by
  unfold yWait
  iintro ⟨#HK, ⟨Hc, Ha⟩, HO, Hk⟩
  iapply (wait_run P K c 3 k 0 (by rw [MayWait_zero]; iintro -; iempintro) (otherC c k) (otherC c k) rfl)
  isplitr; · iexact HK
  isplitl [Hc]; · iexact Hc
  isplitl [Ha]; · iexact Ha
  isplitl [HO]; · iexact HO
  iintro ⟨Ho, Ha, HO⟩
  rw [wp_ret]
  imodintro
  iapply Hk
  isplitr [HO]
  · isplitl [Ho]; · iapply (show carried P c 3 k ⊢ outPt c (1 - c.val % 2) k (OUT P c) from .rfl); iexact Ho
    iexact Ha
  iexact HO

/-- The wait for one's own two copies of a chunk takes their credits, -/
def sentTakes (c : Dev nD) (k : Fin 8) : sProp 𝕄 :=
  iprop((cred (tallyAt (cell c 0 k) () N) ∗ atPos ER (cell c 0 k) 0 ∅ 0) ∗ (cred (tallyAt (cell c 2 k) () N) ∗ atPos ER (cell c 2 k) 0 ∅ 0))
/-- and gives the chunks they read back. -/
def sentGives (c : Dev nD) (k : Fin 8) : sProp 𝕄 :=
  iprop((partPt c k fullShare.right (P c) ∗ atPos ER (cell c 0 k) (0 + 1) ∅ 0) ∗ (outPt c (c.val % 2) k (OUT P c) ∗ atPos ER (cell c 2 k) (0 + 1) ∅ 0))

theorem sent_run (K : GSem nD τ sig → ℕ) (c : Dev nD) (k : Fin 8) (Q : PUnit → sProp 𝕄) :
    iprop(known P K ∗ sentTakes c k ∗ owesW c 0 ∗ (iprop(sentGives P c k ∗ owesW c 0) -∗ Q ⟨⟩))
      ⊢ wp frame (wpE (defs₀ (F := F)) 𝒱₀ c none) Set.univ (sent c k) Q := by
  unfold sent sentTakes sentGives
  iintro ⟨#HK, ⟨⟨Hc, Ha⟩, Hc', Ha'⟩, HO, Hk⟩
  iapply (wait_run P K c 0 k 0 (by rw [MayWait_zero]; iintro -; iempintro) (rcvC k) (partC k) rfl)
  isplitr; · iexact HK
  isplitl [Hc]; · iexact Hc
  isplitl [Ha]; · iexact Ha
  isplitl [HO]; · iexact HO
  iintro ⟨Hx, Ha, HO⟩
  iapply (wait_run P K c 2 k 0 (by rw [MayWait_zero]; iintro -; iempintro) (ownC c k) (ownC c k) rfl)
  isplitr; · iexact HK
  isplitl [Hc']; · iexact Hc'
  isplitl [Ha']; · iexact Ha'
  isplitl [HO]; · iexact HO
  iintro ⟨Ho, Ha', HO⟩
  rw [wp_ret]
  imodintro
  iapply Hk
  isplitr [HO]
  · isplitl [Hx Ha]
    · isplitl [Hx]; · iapply (show carried P c 0 k ⊢ partPt c k fullShare.right (P c) from .rfl); iexact Hx
      iexact Ha
    isplitl [Ho]; · iapply (show carried P c 2 k ⊢ outPt c (c.val % 2) k (OUT P c) from .rfl); iexact Ho
    iexact Ha'
  iexact HO

end Cert.Lookup

end
-- ==== Proof.Body.lean ====
/-
# A device's run of the kernel body

The buffers are cut into their chunks, the barrier lends each device its neighbours' chunks, the four loops run, and the
buffers are put together again: the partial rows as they were, the result at the sums.
-/
module

public import proofs.«01_k».proof.Proof.Rounds

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers and their chunks -/

theorem rows_apart {n h : ℕ} : ∀ t ∈ (Finset.univ : Finset (Fin 8)), ∀ t' ∈ (Finset.univ : Finset (Fin 8)), t ≠ t' →
    Disjoint (rows n (lo h t)) (rows n (lo h t')) :=
  fun t _ t' _ hne => rows_disjoint (by have := Fin.val_ne_of_ne hne; show 256 * h + 32 * t.val + 32 ≤ 256 * h + 32 * t'.val ∨ 256 * h + 32 * t'.val + 32 ≤ 256 * h + 32 * t.val; omega)

theorem rows_apart0 : ∀ t ∈ (Finset.univ : Finset (Fin 8)), ∀ t' ∈ (Finset.univ : Finset (Fin 8)), t ≠ t' →
    Disjoint (rows 256 (32 * t.val)) (rows 256 (32 * t'.val)) :=
  fun t _ t' _ hne => rows_disjoint (by have := Fin.val_ne_of_ne hne; omega)

/-- The receiving buffer is its eight chunks. -/
theorem rcv_chunks (c : Dev nD) (f : FVec F S256x512 .f32) :
    (((c : Thread nD τ).loc cc0_scratch0) ↦{fullShare} f : sProp 𝕄) = bigSep Finset.univ fun k : Fin 8 => rcvPt c k f := by
  have h : (((c : Thread nD τ).loc cc0_scratch0) ↦[Finset.univ.biUnion fun k : Fin 8 => rows 256 (32 * k.val)]{fullShare} f : sProp 𝕄)
      = bigSep Finset.univ fun k : Fin 8 => rcvPt c k f := pointsTo_biUnion _ _ rows_apart0
  rwa [rows_cover] at h

/-- The partial rows are their eight chunks, each in two shares. -/
theorem part_chunks (c : Dev nD) (f : FVec F S256x512 .f32) :
    (((c : Thread nD τ).loc cc0_stg0_0) ↦{fullShare} f : sProp 𝕄)
      = iprop((bigSep Finset.univ fun k : Fin 8 => partPt c k fullShare.left f) ∗ bigSep Finset.univ fun k : Fin 8 => partPt c k fullShare.right f) := by
  have h (q : PosShare TreeShare) : (((c : Thread nD τ).loc cc0_stg0_0) ↦[Finset.univ.biUnion fun k : Fin 8 => rows 256 (32 * k.val)]{q} f : sProp 𝕄)
      = bigSep Finset.univ fun k : Fin 8 => partPt c k q f := pointsTo_biUnion _ _ rows_apart0
  rw [← h, ← h, rows_cover]
  exact BI.Entails.antisymm (pointsTo_share (PosShare.mem_left_op_right fullShare)).1 (pointsTo_share (PosShare.mem_left_op_right fullShare)).2

/-- The result is the eight chunks of the device's own half and the eight of the other. -/
theorem out_chunks (c : Dev nD) (f : FVec F S512x512 .f32) :
    (((c : Thread nD τ).loc cc0_stg1_0) ↦{fullShare} f : sProp 𝕄)
      = iprop((bigSep Finset.univ fun k : Fin 8 => outPt c (c.val % 2) k f) ∗ bigSep Finset.univ fun k : Fin 8 => outPt c (1 - c.val % 2) k f) := by
  have h (g : ℕ) : (((c : Thread nD τ).loc cc0_stg1_0) ↦[Finset.univ.biUnion fun k : Fin 8 => rows 512 (lo g k)]{fullShare} f : sProp 𝕄)
      = bigSep Finset.univ fun k : Fin 8 => outPt c g k f := pointsTo_biUnion _ _ rows_apart
  have hh : c.val % 2 < 2 := Nat.mod_lt _ (by decide)
  rw [← h, ← h]
  refine Eq.trans ?_ (BI.Entails.antisymm (pointsTo_union (halves_disjoint _ hh)).1 (pointsTo_union (halves_disjoint _ hh)).2)
  rw [rows_cover2 (c.val % 2) hh]

omit [FloatOps F] in
/-- Chunks held at one content are held at some. -/
theorem chunks_some {X : Type} (Φ : Fin 8 → X → sProp 𝕄) (f : X) :
    bigSep Finset.univ (fun k => Φ k f) ⊢ bigSep Finset.univ fun k => iprop(∃ f, Φ k f) :=
  bigSep_mono fun k _ => show (Φ k f : sProp 𝕄) ⊢ iprop(∃ f, Φ k f) by iintro H; iexists f; iexact H

omit [FloatOps F] in
/-- A family over kinds and chunks, kind by kind. -/
theorem four (Φ : Fin 4 × Fin 8 → sProp 𝕄) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) := by
  rw [bigSep_univ_prod]
  exact bigSep_univ_eq_bigSepL [0, 1, 2, 3] (by decide) (by decide) _

/-! ## The barrier -/

variable (P : Dev nD → FVec F S256x512 .f32)

/-- What a device lends its `x` neighbour, and its `y` neighbour. -/
theorem lentX_intro (c : Dev nD) :
    iprop((bigSep Finset.univ fun k : Fin 8 => iprop(∃ f, rcvPt (F := F) c k f)) ∗ bigSep Finset.univ fun k : Fin 8 => reached ER (cell c 1 k) 0)
      ⊢ (lentX (xp c) : sProp 𝕄) := by
  unfold lentX
  rw [xp_xp, bigSep_sep']
theorem lentY_intro (c : Dev nD) :
    iprop((bigSep Finset.univ fun k : Fin 8 => iprop(∃ f, outPt (F := F) c (1 - c.val % 2) k f)) ∗ bigSep Finset.univ fun k : Fin 8 => reached ER (cell c 3 k) 0)
      ⊢ (lentY (yp c) : sProp 𝕄) := by
  unfold lentY
  rw [yp_yp, half_yp, bigSep_sep']

/-- The signals and the wait: a device lends its neighbours what they fill, and is lent what it fills. -/
theorem barrier_run (K : GSem nD τ sig → ℕ) (c : Dev nD) (p : PUnit → Pr F) (Q : PUnit → sProp 𝕄) :
    iprop(known P K ∗ iprop(atPos ER (bar c) 0 ∅ 0 ∗ cred (tallyAt (bar c) () 2) ∗ dutyTok ER (bar (xp c)) 0 true ∗ dutyTok ER (bar (yp c)) 0 false)
        ∗ iprop(lentX (xp c) ∗ lentY (yp c)) ∗ owesW c (O₀ c)
        ∗ (iprop(atPos ER (bar c) (0 + 1) ∅ 0 ∗ lentX c ∗ lentY c ∗ owesW c (O₂ c 0 0))
            -∗ wp frame (wpE (defs₀ (F := F)) 𝒱₀ c none) Set.univ (p ⟨⟩) Q))
      ⊢ wp frame (wpE (defs₀ (F := F)) 𝒱₀ c none) Set.univ
          (.op (.semSignal (Dev.tc (xp c)) barS 1) fun _ => .op (.semSignal (Dev.tc (yp c)) barS 1) fun _ => .op (.semWait barS 2) p) Q := by
  unfold known owesW
  iintro ⟨⟨#HI, #Hlev⟩, ⟨Ha, Hc, Htx, Hty⟩, ⟨Hlx, Hly⟩, ⟨%W, HO⟩, Hk⟩
  iapply (Rounds.wp_signal 𝒱₀ ER (rd P) (c : Thread nD τ) none (dst := (xp c : Thread nD τ)) (sem := barS) (r := 0) (d := true) (κ := K (bar (xp c)))
      (by rw [duties_bar]; exact Finset.mem_univ _) ((amount_bar P (xp c) true).trans (by decide)) () (O₂ c 0 0 + tallyAt (bar (yp c)) () 1) rfl)
    $$ [HO Htx Hlx]
  · ihave HIb := (inv_bar P K (xp c)) $$ HI
    icases HIb with ⟨HIb, Hr⟩
    isplitl [HIb]; · iexact HIb
    isplitl [HO]; · iexact HO
    isplitl [Htx]; · iexact Htx
    isplitl [Hlx]; · iapply (Entails.of_eq (payload_barX P (xp c)).symm); iexact Hlx
    iexact Hr
  iintro HO
  iapply (Rounds.wp_signal 𝒱₀ ER (rd P) (c : Thread nD τ) none (dst := (yp c : Thread nD τ)) (sem := barS) (r := 0) (d := false) (κ := K (bar (yp c)))
      (by rw [duties_bar]; exact Finset.mem_univ _) ((amount_bar P (yp c) false).trans (by decide)) () (O₂ c 0 0) rfl)
    $$ [HO Hty Hly]
  · ihave HIb := (inv_bar P K (yp c)) $$ HI
    icases HIb with ⟨HIb, Hr⟩
    isplitl [HIb]; · iexact HIb
    isplitl [HO]; · iexact HO
    isplitl [Hty]; · iexact Hty
    isplitl [Hly]; · iapply (Entails.of_eq (payload_barY P (yp c)).symm); iexact Hly
    iexact Hr
  iintro HO
  iapply (Rounds.wp_wait_rest_token 𝒱₀ ER (rd P) (c : Thread nD τ) none (κ := K (bar c))
      (wpE_semWait_eq 𝒱₀ (c : Thread nD τ) none Set.univ) (Set.mem_univ _) () (O := O₂ c 0 0) (W := W) (R := 0) (m := 0) (T := ∅)
      ((Nat.zero_add _).trans (expect_bar P c).symm)) $$ [Hc HO Ha]
  · ihave HIb := (inv_bar P K c) $$ HI
    icases HIb with ⟨HIb, -⟩
    isplitl [HIb]; · iexact HIb
    isplitl [Hc]; · iexact Hc
    isplitl [HO]; · iexact HO
    isplitr; · iapply (mayWait_bar c); iexact Hlev
    iexact Ha
  iintro ⟨HO, Ha, -, Hp⟩
  ihave Hp := (Entails.of_eq (rest_bar P c)) $$ Hp
  icases Hp with ⟨Hlx, Hly⟩
  iapply Hk
  isplitl [Ha]; · iexact Ha
  isplitl [Hlx]; · iexact Hlx
  isplitl [Hly]; · iexact Hly
  iexists _; iexact HO

/-! ## The whole body -/

/-- Every transfer cell past its one round can be closed: its counter is zero. -/
theorem close_cells (K : GSem nD τ sig → ℕ) (c : Dev nD) :
    iprop(known P K ∗ bigSep Finset.univ fun x : Fin 4 × Fin 8 => atPos ER (cell c x.1 x.2) (0 + 1) ∅ 0)
      ⊢ (|={Set.univ}=> bigSep Finset.univ fun x : Fin 4 × Fin 8 => semVal (cell c x.1 x.2) 0 : sProp 𝕄) :=
  (bigSep_with_persistent (Ψ := fun x : Fin 4 × Fin 8 => iprop(|={Set.univ}=> semVal (cell c x.1 x.2) 0)) fun x _ => by
    unfold known
    iintro ⟨⟨#HI, -⟩, Ha⟩
    iapply (Rounds.cell_close ER (rd P) (Set.mem_univ (K (cell c x.1 x.2))) id (R := 0 + 1) (duties_later P (cell c x.1 x.2)))
    isplitr; · iapply (inv_cell P K c x.1 x.2); iexact HI
    iexact Ha).trans (bigSep_fupd _ _)

/-- The barrier's counter too. -/
theorem close_bar (K : GSem nD τ sig → ℕ) (c : Dev nD) :
    iprop(known P K ∗ atPos ER (bar c) (0 + 1) ∅ 0) ⊢ (|={Set.univ}=> semVal (bar c) 0 : sProp 𝕄) := by
  unfold known
  iintro ⟨⟨#HI, -⟩, Ha⟩
  ihave HIb := (inv_bar P K c) $$ HI
  icases HIb with ⟨HIb, -⟩
  iapply (Rounds.cell_close ER (rd P) (Set.mem_univ (K (bar c))) id (R := 0 + 1) (duties_later P (bar c)))
  isplitl [HIb]; · iexact HIb
  iexact Ha

/-- What the body starts with: its cells open, its credits, its three buffers, its debts. -/
def bodyPre (c : Dev nD) : sProp 𝕄 :=
  iprop(opened c ∗ creds c ∗ (∃ f : FVec F S256x512 .f32, ((c : Thread nD τ).loc cc0_scratch0) ↦{fullShare} f)
    ∗ (((c : Thread nD τ).loc cc0_stg0_0) ↦{fullShare} P c) ∗ (∃ f : FVec F S512x512 .f32, ((c : Thread nD τ).loc cc0_stg1_0) ↦{fullShare} f)
    ∗ owesW c (O₀ c))
/-- And ends with: every counter zero, the result at the sums, nothing owed. -/
def bodyPost (c : Dev nD) : sProp 𝕄 :=
  iprop(semVal (bar c) 0 ∗ (bigSep Finset.univ fun x : Fin 4 × Fin 8 => semVal (cell c x.1 x.2) 0)
    ∗ (∃ f : FVec F S256x512 .f32, ((c : Thread nD τ).loc cc0_scratch0) ↦{fullShare} f)
    ∗ (((c : Thread nD τ).loc cc0_stg0_0) ↦{fullShare} P c) ∗ (((c : Thread nD τ).loc cc0_stg1_0) ↦{fullShare} OUT P c)
    ∗ owesW c 0)

/-- A loop's takings, piece by piece over all chunks. -/
theorem xSendTakes_all (c : Dev nD) :
    iprop((bigSep Finset.univ fun k => partPt c k fullShare.right (P c))
        ∗ (bigSep Finset.univ fun k : Fin 8 => iprop((∃ f, rcvPt (xp c) k f) ∗ reached ER (cell (xp c) 1 k) 0))
        ∗ (bigSep Finset.univ fun k : Fin 8 => reached ER (cell c 0 k) 0) ∗ (bigSep Finset.univ fun k : Fin 8 => dutyTok ER (cell c 0 k) 0 true)
        ∗ bigSep Finset.univ fun k : Fin 8 => dutyTok ER (cell (xp c) 1 k) 0 true)
      ⊢ (bigSep Finset.univ (xSendTakes P c) : sProp 𝕄) := by
  show _ ⊢ bigSep Finset.univ fun k => xSendTakes P c k
  simp only [xSendTakes, bigSep_sep']
  exact .rfl
theorem stepTakes_all (c : Dev nD) :
    iprop((bigSep Finset.univ fun k : Fin 8 => cred (tallyAt (cell c 1 k) () N)) ∗ (bigSep Finset.univ fun k : Fin 8 => atPos ER (cell c 1 k) 0 ∅ 0)
        ∗ (bigSep Finset.univ fun k => partPt c k fullShare.left (P c)) ∗ (bigSep Finset.univ fun k => iprop(∃ f, outPt (F := F) c (c.val % 2) k f))
        ∗ (bigSep Finset.univ fun k : Fin 8 => iprop((∃ f, outPt (yp c) (c.val % 2) k f) ∗ reached ER (cell (yp c) 3 k) 0))
        ∗ (bigSep Finset.univ fun k : Fin 8 => reached ER (cell c 2 k) 0) ∗ (bigSep Finset.univ fun k : Fin 8 => dutyTok ER (cell c 2 k) 0 true)
        ∗ bigSep Finset.univ fun k : Fin 8 => dutyTok ER (cell (yp c) 3 k) 0 true)
      ⊢ (bigSep Finset.univ (stepTakes P c) : sProp 𝕄) := by
  show _ ⊢ bigSep Finset.univ fun k => stepTakes P c k
  simp only [stepTakes, bigSep_sep']
  exact .rfl

/-- The body's run. -/
theorem body_run (K : GSem nD τ sig → ℕ) (c : Dev nD) (Q : PUnit → sProp 𝕄) :
    iprop(known P K ∗ bodyPre P c ∗ (bodyPost P c -∗ Q ⟨⟩)) ⊢ wp frame (wpE (defs₀ (F := F)) 𝒱₀ c none) Set.univ (bodyOn c) Q := by
  unfold bodyOn bodyPre opened creds
  simp only [dev1_eq, dev2_eq, xdev_eq, ydev_eq, four, bigSep_sep']
  iintro ⟨#HK, ⟨⟨HaB, ⟨⟨Ha0, Ha1, Ha2, Ha3⟩, #Hr0, #Hr1, #Hr2, #Hr3⟩, HtX, HtY, Ht0, Ht1, Ht2, Ht3⟩, ⟨HcB, Hc1, Hc3⟩, ⟨%fr, Hrcv⟩, Hpart, ⟨%fo, Hout⟩, HO⟩, Hk⟩
  ihave Hrcv := ((Entails.of_eq (rcv_chunks c fr)).trans (chunks_some (fun k f => rcvPt c k f) fr)) $$ Hrcv
  ihave Hpart := (Entails.of_eq (part_chunks c (P c))) $$ Hpart
  ihave Hout := (Entails.of_eq (out_chunks c fo)) $$ Hout
  icases Hpart with ⟨HpL, HpR⟩
  icases Hout with ⟨HoO, HoY⟩
  ihave HoO := (chunks_some (fun k f => outPt c (c.val % 2) k f) fo) $$ HoO
  ihave HoY := (chunks_some (fun k f => outPt c (1 - c.val % 2) k f) fo) $$ HoY
  -- the barrier
  iapply (barrier_run P K c)
  isplitr; · iexact HK
  isplitl [HaB HcB HtX HtY]
  · isplitl [HaB]; · iexact HaB
    isplitl [HcB]; · iexact HcB
    isplitl [HtX]; · iexact HtX
    iexact HtY
  isplitl [Hrcv HoY]
  · isplitl [Hrcv]
    · iapply (lentX_intro c)
      isplitl [Hrcv]; · iexact Hrcv
      iexact Hr1
    iapply (lentY_intro c)
    isplitl [HoY]; · iexact HoY
    iexact Hr3
  isplitl [HO]; · iexact HO
  iintro ⟨HaB, HlX, HlY, HO⟩
  unfold lentX lentY
  -- the chunks out along x
  iapply (loop8_run c (fun k => xSend (xp c) k) _ (known P K) (xSendTakes P c) (fun k => cred (tallyAt (cell c 0 k) () N)) (fun n => owesW c (O₂ c n 0)) (xSend_run P K c))
  isplitr; · iexact HK
  isplitl [HpR HlX Ht0 Ht1]
  · iapply (xSendTakes_all P c)
    isplitl [HpR]; · iexact HpR
    isplitl [HlX]; · iexact HlX
    isplitr; · iexact Hr0
    isplitl [Ht0]; · iexact Ht0
    iexact Ht1
  isplitl [HO]; · iexact HO
  iintro ⟨Hc0, HO⟩
  -- the sums
  iapply (loop8_run c (fun k => step c (yp c) k) _ (known P K) (stepTakes P c) (stepGives P c) (fun n => owesW c (O₂ c 8 n)) (step_run P K c))
  isplitr; · iexact HK
  isplitl [Hc1 Ha1 HpL HoO HlY Ht2 Ht3]
  · iapply (stepTakes_all P c)
    isplitl [Hc1]; · iexact Hc1
    isplitl [Ha1]; · iexact Ha1
    isplitl [HpL]; · iexact HpL
    isplitl [HoO]; · iexact HoO
    isplitl [HlY]; · iexact HlY
    isplitr; · iexact Hr2
    isplitl [Ht2]; · iexact Ht2
    iexact Ht3
  isplitl [HO]; · iexact HO
  unfold stepGives
  rw [bigSep_sep', bigSep_sep', bigSep_sep']
  rw [O₂_end]
  iintro ⟨⟨Ha1, HpL, Hrcv, Hc2⟩, HO⟩
  -- the other half in
  iapply (loop8_run c (yWait c) _ (known P K) (fun k => iprop(cred (tallyAt (cell c 3 k) () N) ∗ atPos ER (cell c 3 k) 0 ∅ 0))
    (fun k => iprop(outPt c (1 - c.val % 2) k (OUT P c) ∗ atPos ER (cell c 3 k) (0 + 1) ∅ 0)) (fun _ => owesW c 0) (yWait_run P K c))
  isplitr; · iexact HK
  isplitl [Hc3 Ha3]
  · rw [bigSep_sep']
    isplitl [Hc3]; · iexact Hc3
    iexact Ha3
  isplitl [HO]; · iexact HO
  rw [bigSep_sep']
  iintro ⟨⟨HoY, Ha3⟩, HO⟩
  -- the own copies gone
  iapply (loop8_run c (sent c) _ (known P K) (fun k => sentTakes c k) (sentGives P c) (fun _ => owesW c 0) (sent_run P K c))
  isplitr; · iexact HK
  isplitl [Hc0 Ha0 Hc2 Ha2]
  · unfold sentTakes
    rw [bigSep_sep', bigSep_sep', bigSep_sep']
    isplitl [Hc0 Ha0]
    · isplitl [Hc0]; · iexact Hc0
      iexact Ha0
    isplitl [Hc2]; · iexact Hc2
    iexact Ha2
  isplitl [HO]; · iexact HO
  unfold sentGives
  rw [bigSep_sep', bigSep_sep', bigSep_sep']
  iintro ⟨⟨⟨HpR, Ha0⟩, HoO, Ha2⟩, HO⟩
  -- the counters
  rw [wp_ret]
  imod (close_cells P K c) $$ [Ha0 Ha1 Ha2 Ha3] with Hs
  · isplitr; · iexact HK
    rw [four]
    isplitl [Ha0]; · iexact Ha0
    isplitl [Ha1]; · iexact Ha1
    isplitl [Ha2]; · iexact Ha2
    iexact Ha3
  imod (close_bar P K c) $$ [HaB] with Hb
  · isplitr; · iexact HK
    iexact HaB
  imodintro
  iapply Hk
  unfold bodyPost
  isplitl [Hb]; · iexact Hb
  isplitl [Hs]; · iexact Hs
  isplitl [Hrcv]
  · iexists P (xp c)
    rw [rcv_chunks]; iexact Hrcv
  isplitl [HpL HpR]
  · rw [part_chunks]
    isplitl [HpL]; · iexact HpL
    iexact HpR
  isplitl [HoO HoY]
  · rw [out_chunks]
    isplitl [HoO]; · iexact HoO
    iexact HoY
  iexact HO

end Cert.Lookup

end
-- ==== Proof.Region.lean ====
/-
# The kernel call

The call copies a device's partial rows in, runs the body once and copies the result out. Here the body's run is put
inside that frame: what the call needs at its entry, what it leaves at its end, and the contents of every buffer before
and after.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit.Geometry

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Device `c`'s partial rows, as the host part leaves them. -/
def part (c : Dev nD) : FVec F S256x512 .f32 := V4 m c main_v31

/-- What the call leaves in the result buffers. -/
def outs : Outs (F := F) := fun _ r c => if h : r = main_v32 then h ▸ OUT (part m) c else m ((c : Thread nD τ).loc r)
theorem outs_v32 (c : Dev nD) : outs m 5 main_v32 c = OUT (part m) c := by
  unfold outs; exact dif_pos rfl

/-- The call's own semaphores: one for each kind and chunk. -/
abbrev osem (x : Fin 4 × Fin 8) : SemLoc sig := .dma (dsem x.1 x.2)

/-- What a device brings to the call, -/
def Tk (c : Dev nD) : sProp 𝕄 := iprop((∃ K, records (part m) K ∗ dealt c) ∗ creds c)
/-- what it starts the body with, its transfer cells open, -/
def Xk (c : Dev nD) : sProp 𝕄 := iprop((∃ K, known (part m) K ∗ opened c) ∗ creds c)
/-- and what it takes away: its barrier at zero. -/
def Yk (c : Dev nD) : sProp 𝕄 := semVal (bar c) 0

/-- The receiving buffer at any contents, and the random number register. -/
def rest (c : Dev nD) : sProp 𝕄 :=
  iprop((∃ f : FVec F S256x512 .f32, ((c : Thread nD τ).loc cc0_scratch0) ↦{fullShare} f) ∗ ∃ r, prngReg c r)
/-- The transfer counters at zero. -/
def atZero (c : Dev nD) : sProp 𝕄 := bigSep Finset.univ fun x : Fin 4 × Fin 8 => semVal (cell c x.1 x.2) 0

/-- The call's data: the buffers it stages and what the body leaves there, the state around the one run of the body, and
    what is owed before and after it. -/
def dats (_ : Fin 1) (c : Dev nD) : Dat τ (Elt F) Unit ℕ UU ℕ cfg0 c where
  A w := V4 m c (Proc.devRef .tc (Pipeline.arrRef spec0 w))
  after w _ := match w with
    | ⟨0, _⟩ => part m c
    | ⟨1, _⟩ => OUT (part m) c
  Φ t := if t.val = 0 then iprop(Xk m c ∗ rest c) else iprop(Yk c ∗ atZero c ∗ rest c)
  q _ := fullShare
  owed t := if t.val = 0 then O₀ c else 0

theorem owed_last (c : Dev nD) : (dats m 0 c).owed (Fin.last _) = 0 := by
  show (if (Fin.last cfg0.N).val = 0 then O₀ c else 0) = _
  rw [Fin.val_last, if_neg (by rw [show cfg0.N = 1 from N_0]; decide)]

theorem Φ_last (c : Dev nD) : (dats m 0 c).Φ (Fin.last _) = iprop(Yk c ∗ atZero c ∗ rest c) := by
  show (if (Fin.last cfg0.N).val = 0 then iprop(Xk m c ∗ rest c) else iprop(Yk c ∗ atZero c ∗ rest c)) = _
  rw [Fin.val_last, if_neg (by rw [show cfg0.N = 1 from N_0]; decide)]

theorem share_full (c : Dev nD) (w : Fin 2) : (dats m 0 c).share w = fullShare := by unfold Dat.share; split <;> rfl

/-- What is owed at a point of the call, whatever has been waited for. -/
theorem owesAt_of (c : Dev nD) (t) (O) (h : (dats m 0 c).owed t = O) : owesW c O ⊢ (dats m 0 c).owesAt () t := by
  unfold owesW Dat.owesAt Pipeline.owesWithin
  rw [h]
  iintro ⟨%W, HO⟩
  iexists W
  isplitr
  · ipureintro; exact fun _ _ => Or.inl trivial
  iexact HO
theorem of_owesAt (c : Dev nD) (t) (O) (h : (dats m 0 c).owed t = O) : (dats m 0 c).owesAt () t ⊢ owesW c O := by
  unfold owesW Dat.owesAt Pipeline.owesWithin
  rw [h]
  iintro ⟨%W, -, HO⟩
  iexists W
  iexact HO

/-! ## The body inside the call -/

/-- A staging buffer at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (c : Thread nD τ) (Memref.whole b) fullShare X : sProp 𝕄) = stg c b X := by
  unfold owns
  simp only [Memref.view_whole, View.read_whole, View.set_whole]

theorem bigSep_W (Φ : Fin cfg0.W → sProp 𝕄) : bigSep Finset.univ Φ = iprop(Φ (0 : Fin 2) ∗ Φ (1 : Fin 2)) := bigSep_W0 Φ

/-- The partial rows are staged as they lie. -/
theorem staged (c : Dev nD) (d) : (dats m 0 c).before (0 : Fin 2) t0_0 d = part m c := by
  unfold Dat.before
  rw [if_pos (fetch0_0 t0_0)]
  funext i
  show V4 m c main_v31 ((win0_0.blk t0_0).view.emb i) = V4 m c main_v31 i
  refine congrArg _ (funext fun a => Fin.ext ?_)
  match a with
  | ⟨0, _⟩ => show 0 + 1 * (i 0).val = (i 0).val; omega
  | ⟨1, _⟩ => show 0 + 1 * (i 1).val = (i 1).val; omega

/-- The call's body does what its data say. -/
theorem body0 (c : Dev nD) : BodyObligation (dats (F := F) m 0 c) defs₀ 𝒱₀ () Set.univ := fun t => by
  rw [fin_N0 t]
  rw [bigSep_W, bigSep_W]
  simp only [owns_whole]
  show iprop(iprop(Xk m c ∗ rest c) ∗ (dats m 0 c).owesAt () (t0_0 : Fin cfg0.N).castSucc
      ∗ (∃ d, stg c cc0_stg0_0 ((dats m 0 c).before (0 : Fin 2) t0_0 d)) ∗ (∃ d, stg c cc0_stg1_0 ((dats m 0 c).before (1 : Fin 2) t0_0 d)))
    ⊢ wp frame (wpE (defs₀ (F := F)) 𝒱₀ c none) Set.univ
      (cc0_body partM (Memref.isWhole_whole _) outM (Memref.isWhole_whole _) rcvM (Memref.isWhole_whole _) cc0_scratch1 cc0_scratch2 cc0_scratch3 cc0_scratch4)
      fun _ => iprop(iprop(Yk c ∗ atZero c ∗ rest c) ∗ (dats m 0 c).owesAt () (t0_0 : Fin cfg0.N).succ
        ∗ stg c cc0_stg0_0 (part m c) ∗ stg c cc0_stg1_0 (OUT (part m) c))
  rw [body_eq]
  simp only [wp_deviceId, staged]
  unfold Xk rest
  iintro ⟨⟨⟨⟨%K, #HK, Hop⟩, Hcr⟩, Hrcv, Hreg⟩, HO, ⟨%d0, %g0, %hg0, Hp⟩, ⟨%d1, %g1, -, Ho⟩⟩
  subst hg0
  iapply (body_run (part m) K c)
  isplitr; · iexact HK
  isplitr [Hreg]
  · unfold bodyPre
    isplitl [Hop]; · iexact Hop
    isplitl [Hcr]; · iexact Hcr
    isplitl [Hrcv]; · iexact Hrcv
    isplitl [Hp]; · iexact Hp
    isplitl [Ho]; · iexists g1; iexact Ho
    iapply (of_owesAt m c (t0_0 : Fin cfg0.N).castSucc (O₀ c) rfl); iexact HO
  unfold bodyPost Yk atZero
  iintro ⟨Hb, Hs, Hrcv, Hp, Ho, HO⟩
  isplitl [Hb Hs Hrcv Hreg]
  · isplitl [Hb]; · iexact Hb
    isplitl [Hs]; · iexact Hs
    isplitl [Hrcv]; · iexact Hrcv
    iexact Hreg
  isplitl [HO]; · iapply (owesAt_of m c (t0_0 : Fin cfg0.N).succ 0 rfl); iexact HO
  isplitl [Hp]
  · iexists _; isplitr; · ipureintro; rfl
    iexact Hp
  iexists _; isplitr; · ipureintro; rfl
  iexact Ho

/-! ## Entering and leaving -/

/-- One transfer cell opened: its counter is at zero and its right to open is at hand. -/
theorem open_cell (P : Dev nD → FVec F S256x512 .f32) (K : GSem nD τ sig → ℕ) (c : Dev nD) (x : Fin 4 × Fin 8) :
    iprop(records P K ∗ (openTok ER (cell c x.1 x.2) ∗ semVal (cell c x.1 x.2) 0))
      ⊢ (iprop(|={Set.univ}=> (atPos ER (cell c x.1 x.2) 0 ∅ 0 ∗ reached ER (cell c x.1 x.2) 0)) : sProp 𝕄) := by
  iintro ⟨#HK, Ho, Hs⟩
  iapply (Rounds.cell_open ER (rd P) (g := cell c x.1 x.2) (Set.mem_univ (K (cell c x.1 x.2))))
  isplitr; · iapply (inv_cell P K c x.1 x.2); iexact HK
  isplitl [Ho] <;> iassumption

/-- At the entry the transfer cells are opened. -/
theorem enter (c : Dev nD) : iprop(Tk m c ∗ Pipeline.ownSems0 osem c ∗ levAts L lv) ⊢ (|={Set.univ}=> Xk m c : sProp 𝕄) := by
  unfold Tk Xk dealt opened known
  iintro ⟨⟨⟨%K, #HK, Hb, Ho, Ht⟩, Hcr⟩, Hs, #Hlev⟩
  ihave Hos := (show iprop((bigSep Finset.univ fun x : Fin 4 × Fin 8 => openTok ER (cell c x.1 x.2)) ∗ Pipeline.ownSems0 osem c)
      ⊢ (bigSep Finset.univ fun x : Fin 4 × Fin 8 => iprop(openTok ER (cell c x.1 x.2) ∗ semVal (cell c x.1 x.2) 0) : sProp 𝕄) from Entails.of_eq (bigSep_sep' _ _ _).symm) $$ [Ho Hs]
  · isplitl [Ho] <;> iassumption
  ihave Hu := (bigSep_with_persistent (R := records (part m) K) (S := Finset.univ)
    (Φ := fun x : Fin 4 × Fin 8 => iprop(openTok ER (cell c x.1 x.2) ∗ semVal (cell c x.1 x.2) 0)) fun x _ => open_cell (part m) K c x) $$ [Hos]
  · isplitr; · iexact HK
    iexact Hos
  imod (bigSep_fupd Finset.univ fun x : Fin 4 × Fin 8 => iprop(atPos ER (cell c x.1 x.2) 0 ∅ 0 ∗ reached ER (cell c x.1 x.2) 0)) $$ Hu with Hopen
  imodintro
  isplitr [Hcr]
  · iexists K
    isplitr
    · isplitr; · iexact HK
      iexact Hlev
    isplitl [Hb]; · iexact Hb
    isplitl [Hopen]; · iexact Hopen
    iexact Ht
  iexact Hcr

theorem held_none (c : Dev nD) (W : Valuation τ sig (Elt F)) : (StableHlo.held (c.tc : Thread nD τ) ∅ W : sProp 𝕄) = BI.emp := by
  unfold StableHlo.held
  exact BI.bigSep_empty

/-- Into the body's state, -/
theorem into (c : Dev nD) : iprop(Pipeline.scopedRest (Pipeline.pin (pcfgs (F := F)) adm 0).spec c ∗ (∃ r, prngReg c r)
      ∗ StableHlo.held (c.tc : Thread nD τ) ∅ (V4 m c) ∗ Xk m c)
    ⊢ (dats m 0 c).Φ 0 := by
  rw [show (dats m 0 c).Φ 0 = iprop(Xk m c ∗ rest c) from rfl,
    show (Pipeline.scopedRest (Pipeline.pin (pcfgs (F := F)) adm 0).spec c : sProp 𝕄) = _ from scopedRest0_eq c]
  unfold rest
  iintro ⟨Hs, Hr, -, HX⟩
  isplitl [HX]; · iexact HX
  isplitl [Hs]; · iexact Hs
  iexact Hr

/-- and out of it. -/
theorem outof (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V5 m (outs m) c) ∗ Pipeline.ownSems0 osem c ∗ Yk c) := by
  rw [show (dats m 0 c).Φ (Fin.last (Pipeline.pin (pcfgs (F := F)) adm 0).N) = iprop(Yk c ∗ atZero c ∗ rest c) from Φ_last m c,
    show (Pipeline.scopedRest (Pipeline.pin (pcfgs (F := F)) adm 0).spec c : sProp 𝕄) = _ from scopedRest0_eq c, held_none]
  unfold rest
  iintro ⟨HY, Hz, Hs, Hr⟩
  isplitl [Hs]; · iexact Hs
  isplitl [Hr]; · iexact Hr
  isplitr; · iempintro
  isplitl [Hz]; · unfold Pipeline.ownSems0; unfold atZero; iexact Hz
  iexact HY

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever is owed during the call stands above the call's own copies. -/
theorem owed_above (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  have e : (dats (F := F) m 0 c).owed t = if t.val = 0 then O₀ c else 0 := rfl
  rw [e] at h
  split at h
  · rcases O₀_pos h with (⟨k, rfl⟩ | ⟨k, rfl⟩) | rfl | rfl
    · exact ⟨by rw [L_tc]; exact Finset.mem_singleton_self _, by rw [lv_cell]; decide⟩
    · exact ⟨by rw [L_tc]; exact Finset.mem_singleton_self _, by rw [lv_cell]; decide⟩
    · exact ⟨by rw [L_tc]; exact Finset.mem_singleton_self _, by show 0 < 1; decide⟩
    · exact ⟨by rw [L_tc]; exact Finset.mem_singleton_self _, by show 0 < 1; decide⟩
  · exact absurd h (Nat.lt_irrefl 0)

/-- The buffers the call does not stage. -/
abbrev others : Finset (DevRef τ sig) := Pipeline.ucRefs τ sig \ Pipeline.arrRefs (τ := τ) spec0

theorem others_kept (c : Dev nD) : ∀ b ∈ others \ ∅, V5 m (outs m) c b = V4 m c b := fun b hb => by
  have hb : b ∈ others := (Finset.mem_sdiff.mp hb).1
  refine Function.update_of_ne ?_ _ _
  rintro rfl
  exact (Finset.mem_sdiff.mp hb).2 (Finset.mem_map_of_mem _ (Finset.mem_image_of_mem _ (Finset.mem_univ (1 : Fin 2))))

/-- The result array at the end of the call. -/
theorem result (c : Dev nD) : (dats (F := F) m 0 c).arrAt (1 : Fin 2) cfg0.N = OUT (part m) c :=
  Dat.arrAt_eq_of_after_last (dats (F := F) m 0 c) (1 : Fin 2) t0_0 (by decide +kernel) (OUT (part m) c) (fun j => by
    show OUT (part m) c (fun a => ⟨(j a).val, _⟩) = OUT (part m) c ((win0_1.arr.view.emb j))
    rfl) (Memref.isWhole_whole _)

theorem arrays_before (c : Dev nD) (w : Fin 2) : (dats (F := F) m 0 c).arrAt w 0 = V4 m c (Proc.devRef .tc (Pipeline.arrRef spec0 w)) := rfl

/-- The arrays after the call: the partial rows as they were, the result. -/
theorem arrays_after (c : Dev nD) : ∀ w : Fin 2, (dats (F := F) m 0 c).arrAt w cfg0.N = V5 m (outs m) c (Proc.devRef .tc (Pipeline.arrRef spec0 w))
  | 0 => ((dats (F := F) m 0 c).arrAt_in (0 : Fin 2) rfl _).trans (V5_of m (outs m) c main_v31 (by decide)).symm
  | 1 => (result m c).trans ((Function.update_self (Proc.devRef .tc main_v32) (outs m 5 main_v32 c) (V4 m c)).trans (outs_v32 m c)).symm

/-- The call's own copies wait below everything owed. -/
theorem lv_stage (c : Dev nD) (s : DmaSem sig) (h : s.val < 2) : lv ((c : Thread nD τ), .dma s) () ≤ 0 := by
  unfold lv
  exact (if_pos h).le
theorem stage_low (c : Dev nD) : ∀ (w : Fin 2) (s : Fin (spec0 w).nbuf), lv ((c : Thread nD τ), .dma ((spec0 w).sem s)) () ≤ 0
  | 0 => fun s => lv_stage c _ ((by decide : ∀ s : Fin (spec0 0).nbuf, ((spec0 0).sem s).val < 2) s)
  | 1 => fun s => lv_stage c _ ((by decide : ∀ s : Fin (spec0 1).nbuf, ((spec0 1).sem s).val < 2) s)

set_option backward.isDefEq.respectTransparency.types false in
/-- The call. -/
def reg0 : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ others (Finset.empty_subset _) kit0 rfl (fun c => (body0 m c).loose)
    (fun _ => 0) O₀ (fun c => (zero_add _).symm) (owed_last m) (fun _ => rfl) (share_full m)
    (V4 m) (V5 m (outs m)) (others_kept m)
    (Tk m) Yk (Xk m) Yk (enter m) (into m) (outof m)
    (fun c => by iintro H; imodintro; iexact H)
    (fun _ => 0)
    ⟨fun c w s => by rw [L_tc]; exact Finset.mem_singleton_self _, fun c w s => stage_low c w s, fun c t g i h => owed_above m c t g i h⟩
    (fun _ => iprop(emp))
    (fun c w => arrays_before m c w) (fun c w => arrays_after m c w)

end Cert.Lookup

end
-- ==== Proof.Launch.lean ====
/-
# The launch and the whole run

At launch every cell's invariant is made, the barrier's with its counter and the transfers' without (these are opened at the
call), the tokens go to the devices that pay the duties, and the credits to those that wait. Then the host part, the call
and the end are put together: every run ends, with the arguments as they were, the result at the sums and every counter at
zero.
-/
module

public import proofs.«01_k».proof.Proof.Region

@[expose] public section

set_option maxRecDepth 16384

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ) (ρ : Dev nD → PrngReg)

/-! ## All cells and tokens -/

theorem dsem_inj {j j' : Fin 4} {k k' : Fin 8} (h : dsem j k = dsem j' k') : j = j' ∧ k = k' := by
  have e : 2 + 8 * j.val + k.val = 2 + 8 * j'.val + k'.val := congrArg Fin.val h
  exact ⟨Fin.ext (by omega), Fin.ext (by omega)⟩
theorem cell_inj {c c' : Dev nD} {j j' : Fin 4} {k k' : Fin 8} (h : cell c j k = cell c' j' k') : c = c' ∧ j = j' ∧ k = k' := by
  refine ⟨congrArg (fun g : GSem nD τ sig => g.1.1) h, dsem_inj ?_⟩
  have := congrArg Prod.snd h
  exact SemLoc.dma.inj this
theorem cell_ne_bar (c c' : Dev nD) (j : Fin 4) (k : Fin 8) : cell c j k ≠ bar c' := fun h => nomatch congrArg Prod.snd h

def barEmb : Dev nD ↪ GSem nD τ sig := ⟨bar, fun _ _ h => congrArg (fun g : GSem nD τ sig => g.1.1) h⟩
def cellEmb : Dev nD × Fin 4 × Fin 8 ↪ GSem nD τ sig := ⟨fun x => cell x.1 x.2.1 x.2.2, fun x y h => by
  obtain ⟨h1, h2, h3⟩ := cell_inj h
  exact Prod.ext h1 (Prod.ext h2 h3)⟩
def barTokEmb : Dev nD × Bool ↪ GSem nD τ sig × ℕ × Bool := ⟨fun x => (bar x.1, 0, x.2), fun x y h =>
  Prod.ext (congrArg (fun t : GSem nD τ sig × ℕ × Bool => t.1.1.1) h) (congrArg (fun t : GSem nD τ sig × ℕ × Bool => t.2.2) h)⟩
def cellTokEmb : Dev nD × Fin 4 × Fin 8 ↪ GSem nD τ sig × ℕ × Bool :=
  ⟨fun x => (cellEmb x, 0, true), fun x y h => cellEmb.injective (congrArg Prod.fst h)⟩

/-- The barrier cells, the transfer cells, and the tokens of all duties. -/
abbrev barCells : Finset (GSem nD τ sig) := Finset.univ.map barEmb
abbrev cells : Finset (GSem nD τ sig) := Finset.univ.map cellEmb
abbrev toks : Finset (GSem nD τ sig × ℕ × Bool) := Finset.univ.map barTokEmb ∪ Finset.univ.map cellTokEmb

theorem cells_disjoint : Disjoint barCells cells := by
  rw [Finset.disjoint_left]
  rintro g h₁ h₂
  obtain ⟨c, -, rfl⟩ := Finset.mem_map.mp h₁
  obtain ⟨x, -, h⟩ := Finset.mem_map.mp h₂
  exact cell_ne_bar _ _ _ _ h
theorem toks_disjoint : Disjoint ((Finset.univ : Finset (Dev nD × Bool)).map barTokEmb) (Finset.univ.map cellTokEmb) := by
  rw [Finset.disjoint_left]
  rintro g h₁ h₂
  obtain ⟨c, -, rfl⟩ := Finset.mem_map.mp h₁
  obtain ⟨x, -, h⟩ := Finset.mem_map.mp h₂
  exact cell_ne_bar _ _ _ _ (congrArg Prod.fst h)

/-- The launch element. -/
def u₀ : UU :=
  (initOf (Pipeline.cells cfgs cellOf_inj) (Pipeline.launchToks cfgs cellOf_inj), launchOf barCells cells toks)

/-- A device's launch resource: the protocol's element, whole, on the first device. -/
def G (c : Dev nD) : sProp 𝕄 := if c = 0 then BI.own (ER (launchOf barCells cells toks)) else iprop(emp)
theorem G_all : bigSep Finset.univ (G (F := F)) = BI.own (ER (launchOf barCells cells toks)) := by
  rw [bigSep_univ_at _ 0, bigSep_congr (s := Finset.univ.erase 0) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-! ## The tokens dealt -/

def acrossX : Dev nD ≃ Dev nD := ⟨xp, xp, xp_xp, xp_xp⟩
def acrossY : Dev nD ≃ Dev nD := ⟨yp, yp, yp_yp, yp_yp⟩
theorem dest_dest (c : Dev nD) (j : Fin 4) : dest (dest c j) j = c := by revert c j; decide
def toDest : Dev nD × Fin 4 × Fin 8 ≃ Dev nD × Fin 4 × Fin 8 where
  toFun x := (dest x.1 x.2.1, x.2)
  invFun x := (dest x.1 x.2.1, x.2)
  left_inv x := Prod.ext (dest_dest x.1 x.2.1) rfl
  right_inv x := Prod.ext (dest_dest x.1 x.2.1) rfl

/-- The tokens, each with the device that pays its duty. -/
theorem toks_dealt : (bigSep toks fun x => (dutyTok ER x.1 x.2.1 x.2.2 : sProp 𝕄))
    ⊢ bigSep Finset.univ fun c : Dev nD => iprop(dutyTok ER (bar (xp c)) 0 true ∗ dutyTok ER (bar (yp c)) 0 false
      ∗ bigSep Finset.univ fun x : Fin 4 × Fin 8 => dutyTok ER (cell (dest c x.1) x.1 x.2) 0 true) := by
  have hb : (bigSep (Finset.univ.map barTokEmb) fun x => (dutyTok ER x.1 x.2.1 x.2.2 : sProp 𝕄))
      = iprop((bigSep Finset.univ fun c : Dev nD => dutyTok ER (bar (xp c)) 0 true) ∗ bigSep Finset.univ fun c : Dev nD => dutyTok ER (bar (yp c)) 0 false) := by
    rw [bigSep_map, bigSep_univ_prod, bigSep_congr fun c _ => bigSep_duties fun b : Bool => (dutyTok ER (barTokEmb (c, b)).1 (barTokEmb (c, b)).2.1 (barTokEmb (c, b)).2.2 : sProp 𝕄), bigSep_sep']
    exact congrArg₂ (fun A B : sProp 𝕄 => iprop(A ∗ B))
      (bigSep_univ_equiv acrossX fun c : Dev nD => (dutyTok ER (bar c) 0 true : sProp 𝕄)) (bigSep_univ_equiv acrossY fun c : Dev nD => (dutyTok ER (bar c) 0 false : sProp 𝕄))
  have hc : (bigSep (Finset.univ.map cellTokEmb) fun x => (dutyTok ER x.1 x.2.1 x.2.2 : sProp 𝕄))
      = bigSep Finset.univ fun c : Dev nD => bigSep Finset.univ fun x : Fin 4 × Fin 8 => dutyTok ER (cell (dest c x.1) x.1 x.2) 0 true := by
    rw [bigSep_map, bigSep_univ_equiv toDest fun x : Dev nD × Fin 4 × Fin 8 => (dutyTok ER (cellTokEmb x).1 (cellTokEmb x).2.1 (cellTokEmb x).2.2 : sProp 𝕄), bigSep_univ_prod]
    rfl
  rw [bigSep_sep', bigSep_sep']
  have hu : (bigSep toks fun x => (dutyTok ER x.1 x.2.1 x.2.2 : sProp 𝕄))
      = iprop(((bigSep Finset.univ fun c : Dev nD => dutyTok ER (bar (xp c)) 0 true) ∗ bigSep Finset.univ fun c : Dev nD => dutyTok ER (bar (yp c)) 0 false)
        ∗ bigSep Finset.univ fun c : Dev nD => bigSep Finset.univ fun x : Fin 4 × Fin 8 => dutyTok ER (cell (dest c x.1) x.1 x.2) 0 true) :=
    (bigSep_union toks_disjoint).trans (by rw [hb, hc]; rfl)
  iintro H
  ihave H' := (Entails.of_eq hu) $$ H
  icases H' with ⟨⟨Hx, Hy⟩, Hc⟩
  isplitl [Hx]; · iexact Hx
  isplitl [Hy] <;> iassumption

/-! ## The credits dealt -/

/-- What a run of chunks owes at a cell. -/
theorem owing_at (d c : Dev nD) (j j' : Fin 4) (k : Fin 8) : owing d j 0 (cell c j' k) () = if d = c ∧ j = j' then N else 0 := by
  unfold owing
  rw [Finset.sum_apply, Finsupp.finset_sum_apply, Finset.filter_true_of_mem fun k _ => Nat.zero_le _,
    Finset.sum_congr rfl fun i _ => show tallyAt (cell d j i) () N (cell c j' k) () = if i = k then (if d = c ∧ j = j' then N else 0) else 0 by
      rw [tallyAt_apply]
      by_cases h : cell c j' k = cell d j i
      · obtain ⟨rfl, rfl, rfl⟩ := cell_inj h
        rw [if_pos ⟨rfl, rfl⟩, if_pos rfl, if_pos ⟨rfl, rfl⟩]
      · rw [if_neg fun hh => h hh.1]
        split
        · next hi => subst hi; rw [if_neg]; rintro ⟨rfl, rfl⟩; exact h rfl
        · rfl]
  exact (Finset.sum_ite_eq' _ _ _).trans (if_pos (Finset.mem_univ k))
theorem owing_at_bar (d c : Dev nD) (j : Fin 4) : owing d j 0 (bar c) () = 0 := by
  unfold owing
  rw [Finset.sum_apply, Finsupp.finset_sum_apply]
  exact Finset.sum_eq_zero fun i _ => by rw [tallyAt_apply, if_neg fun h => cell_ne_bar _ _ _ _ h.1.symm]
theorem bar_at (d c : Dev nD) : tallyAt (bar d) () 1 (bar c) () = if d = c then 1 else 0 := by
  rw [tallyAt_apply]
  by_cases h : d = c
  · subst h; rw [if_pos ⟨rfl, rfl⟩, if_pos rfl]
  · rw [if_neg fun hh => h (congrArg (fun g : GSem nD τ sig => g.1.1) hh.1).symm, if_neg h]
theorem bar_at_cell (d c : Dev nD) (j : Fin 4) (k : Fin 8) : tallyAt (bar d) () 1 (cell c j k) () = 0 := by
  rw [tallyAt_apply, if_neg fun h => cell_ne_bar _ _ _ _ h.1]

theorem O₀_at (d : Dev nD) (g : GSem nD τ sig) :
    O₀ d g () = owing (yp d) 3 0 g () + owing (xp d) 1 0 g () + tallyAt (bar (yp d)) () 1 g () + tallyAt (bar (xp d)) () 1 g () := by
  unfold O₀ O₂
  rw [Pi.add_apply, Finsupp.add_apply, Pi.add_apply, Finsupp.add_apply, Pi.add_apply, Finsupp.add_apply]

/-- The devices together owe a barrier two units, -/
theorem all_bar (c : Dev nD) : ∑ d : Dev nD, O₀ d (bar c) () = 2 := by
  rw [Finset.sum_congr rfl fun d _ => show O₀ d (bar c) () = (if yp d = c then 1 else 0) + (if xp d = c then 1 else 0) by
    rw [O₀_at, owing_at_bar, owing_at_bar, bar_at, bar_at, Nat.zero_add]]
  revert c; decide
/-- an arrival along `x` a chunk, -/
theorem all_x (c : Dev nD) (k : Fin 8) : ∑ d : Dev nD, O₀ d (cell c 1 k) () = N := by
  rw [Finset.sum_congr rfl fun d _ => show O₀ d (cell c 1 k) () = if d = xp c then N else 0 by
    rw [O₀_at, owing_at, owing_at, bar_at_cell, bar_at_cell, if_neg fun h => absurd h.2 (by decide), Nat.zero_add]
    show (if xp d = c ∧ (1 : Fin 4) = 1 then N else 0) = _
    by_cases h : d = xp c
    · subst h; rw [xp_xp, if_pos ⟨rfl, rfl⟩, if_pos rfl]
    · rw [if_neg h, if_neg fun hh => h (by rw [← hh.1, xp_xp])]]
  exact (Finset.sum_ite_eq' _ _ _).trans (if_pos (Finset.mem_univ _))
/-- and an arrival along `y` a chunk. -/
theorem all_y (c : Dev nD) (k : Fin 8) : ∑ d : Dev nD, O₀ d (cell c 3 k) () = N := by
  rw [Finset.sum_congr rfl fun d _ => show O₀ d (cell c 3 k) () = if d = yp c then N else 0 by
    rw [O₀_at, owing_at, owing_at, bar_at_cell, bar_at_cell, if_neg (fun h : xp d = c ∧ (1 : Fin 4) = 3 => absurd h.2 (by decide)), Nat.add_zero]
    show (if yp d = c ∧ (3 : Fin 4) = 3 then N else 0) = _
    by_cases h : d = yp c
    · subst h; rw [yp_yp, if_pos ⟨rfl, rfl⟩, if_pos rfl]
    · rw [if_neg h, if_neg fun hh => h (by rw [← hh.1, yp_yp])]]
  exact (Finset.sum_ite_eq' _ _ _).trans (if_pos (Finset.mem_univ _))

/-- A cell's launch credit is what all devices owe it. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def semEmb : Fin 4 × Fin 8 ↪ SemLoc sig := ⟨fun x => .dma (dsem x.1 x.2), fun x y h => by
  obtain ⟨h1, h2⟩ := dsem_inj (SemLoc.dma.inj h)
  exact Prod.ext h1 h2⟩

/-- The credits a device waits with are among its launch credit. -/
theorem creds_of_launch (c : Dev nD) : (Pipeline.launchCred O₀ c : sProp 𝕄) ⊢ creds c := by
  unfold Pipeline.launchCred creds
  rw [bigSep_univ_at _ (SemLoc.reg barS), credit_at (bar c) 2 (all_bar c)]
  refine sep_mono_right ?_
  refine (bigSep_subset (t := Finset.univ.map semEmb) fun s hs => ?_).trans ?_
  · obtain ⟨x, -, rfl⟩ := Finset.mem_map.mp hs
    exact Finset.mem_erase.mpr ⟨nofun, Finset.mem_univ _⟩
  rw [bigSep_map, four]
  show iprop(_ ∗ (bigSep Finset.univ fun k : Fin 8 => cred (tallyOn (cell c 1 k) (launchCredit (Pipeline.owing O₀) 0 (cell c 1 k))))
    ∗ _ ∗ bigSep Finset.univ fun k : Fin 8 => cred (tallyOn (cell c 3 k) (launchCredit (Pipeline.owing O₀) 0 (cell c 3 k)))) ⊢ iprop(_ ∗ _)
  iintro ⟨-, H1, -, H3⟩
  isplitl [H1]
  · iapply (show _ ⊢ _ from bigSep_mono fun k _ => show (cred (tallyOn (cell c 1 k) (launchCredit (Pipeline.owing O₀) 0 (cell c 1 k))) : sProp 𝕄)
      ⊢ cred (tallyAt (cell c 1 k) () N) from Entails.of_eq (by rw [credit_at (cell c 1 k) N (all_x c k)]))
    iexact H1
  · iapply (show _ ⊢ _ from bigSep_mono fun k _ => show (cred (tallyOn (cell c 3 k) (launchCredit (Pipeline.owing O₀) 0 (cell c 3 k))) : sProp 𝕄)
      ⊢ cred (tallyAt (cell c 3 k) () N) from Entails.of_eq (by rw [credit_at (cell c 3 k) N (all_y c k)]))
    iexact H3

/-! ## The launch -/

/-- What rides beside the buffers before the call, and after it. -/
def E : Fin 2 → Dev nD → sProp 𝕄
  | 0 => fun c => iprop((∃ r, prngReg c r) ∗ Tk m c ∗ owesW c (O₀ c))
  | 1 => fun c => iprop(Yk c ∗ owesW c 0)

theorem unscopedSems_eq (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- The invariants and the open barriers are the records every device reads. -/
theorem records_of (P : Dev nD → FVec F S256x512 .f32) (K : GSem nD τ sig → ℕ) :
    iprop((bigSep (barCells ∪ cells) fun g => cellInv ER (rd P) (K g) g) ∗ bigSep barCells fun g => reached ER g 0) ⊢ (records P K : sProp 𝕄) := by
  unfold records
  rw [bigSep_sep']
  have hi : (bigSep (barCells ∪ cells) fun g => (cellInv ER (rd P) (K g) g : sProp 𝕄))
      = iprop((bigSep Finset.univ fun c : Dev nD => cellInv ER (rd P) (K (bar c)) (bar c))
        ∗ bigSep Finset.univ fun x : Dev nD × Fin 4 × Fin 8 => cellInv ER (rd P) (K (cell x.1 x.2.1 x.2.2)) (cell x.1 x.2.1 x.2.2)) :=
    (bigSep_union cells_disjoint).trans (by rw [bigSep_map, bigSep_map]; rfl)
  iintro ⟨Hi, Hr⟩
  ihave Hi := (Entails.of_eq hi) $$ Hi
  icases Hi with ⟨Hb, Hc⟩
  isplitl [Hb Hr]
  · isplitl [Hb]; · iexact Hb
    iapply (Entails.of_eq (bigSep_map (s := Finset.univ) barEmb (Φ := fun g : GSem nD τ sig => (reached ER g 0 : sProp 𝕄)))); iexact Hr
  iexact Hc

/-- What a device holds beside the records. -/
def own (c : Dev nD) : sProp 𝕄 := iprop(dealt c ∗ creds c ∗ (∃ r, prngReg c r) ∗ owesW c (O₀ c))

theorem E_of (K : GSem nD τ sig → ℕ) (c : Dev nD) : iprop(records (part m) K ∗ own c) ⊢ E m 0 c := by
  unfold own
  show _ ⊢ iprop((∃ r, prngReg c r) ∗ Tk m c ∗ owesW c (O₀ c))
  unfold Tk
  iintro ⟨#HK, Hd, Hc, Hr, HO⟩
  isplitl [Hr]; · iexact Hr
  isplitr [HO]
  · isplitl [Hd]
    · iexists K
      isplitr; · iexact HK
      iexact Hd
    iexact Hc
  iexact HO

/-- The launch makes what rides beside the buffers, on all devices at once. -/
theorem launch :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((creds c ∗ (∃ r, prngReg c r) ∗ owesW c (O₀ c)) ∗ semVal (bar c) 0 ∗ G c) : sProp 𝕄) := by
    rw [unscopedSems_eq]
    unfold owesW
    iintro ⟨Hb, HO, Hc, Hr, HG⟩
    isplitr [Hb HG]
    · isplitl [Hc]; · iapply (creds_of_launch c); iexact Hc
      isplitl [Hr]; · iexists (ρ c); iexact Hr
      iexists ∅; iexact HO
    isplitl [Hb] <;> iassumption
  have hall : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => iprop(creds c ∗ (∃ r, prngReg c r) ∗ owesW c (O₀ c)))
        ∗ (bigSep barCells fun g => semVal g 0) ∗ BI.own (ER (launchOf barCells cells toks))) : sProp 𝕄) := by
    refine (show _ ⊢ _ from bigSep_mono fun c _ => hcore c).trans (show _ ⊢ _ from Entails.of_eq ?_)
    rw [bigSep_sep' Finset.univ (fun c : Dev nD => iprop(creds c ∗ (∃ r, prngReg c r) ∗ owesW c (O₀ c))) (fun c : Dev nD => iprop(semVal (bar c) 0 ∗ G c)),
      bigSep_sep' Finset.univ (fun c : Dev nD => (semVal (bar c) 0 : sProp 𝕄)) (G (F := F)), G_all, bigSep_map]
    rfl
  iintro ⟨H, -⟩
  ihave H' := hall $$ H
  icases H' with ⟨Hrest, Hv, Hu⟩
  imod (Rounds.fund_launch ER (rd (part m)) cells_disjoint (fun g _ h => h) toks) $$ [Hv Hu] with ⟨%K, -, #Hinv, #Hr, Hat, Hopen, Htok⟩
  · isplitl [Hv] <;> iassumption
  imodintro
  iapply (bigSep_with_persistent (R := records (part m) K) (Φ := own) fun c _ => E_of m K c)
  isplitr
  · iapply (records_of (part m) K)
    isplitr; · iexact Hinv
    iexact Hr
  iapply (show iprop((bigSep barCells fun g => atPos ER g 0 ∅ 0) ∗ (bigSep cells fun g => openTok ER g)
      ∗ (bigSep Finset.univ fun c : Dev nD => iprop(dutyTok ER (bar (xp c)) 0 true ∗ dutyTok ER (bar (yp c)) 0 false
        ∗ bigSep Finset.univ fun x : Fin 4 × Fin 8 => dutyTok ER (cell (dest c x.1) x.1 x.2) 0 true))
      ∗ bigSep Finset.univ fun c : Dev nD => iprop(creds c ∗ (∃ r, prngReg c r) ∗ owesW c (O₀ c)))
    ⊢ (bigSep Finset.univ (own (F := F)) : sProp 𝕄) from by
      rw [bigSep_map, bigSep_map, bigSep_univ_prod, ← bigSep_sep', ← bigSep_sep', ← bigSep_sep']
      exact bigSep_mono fun c _ => show iprop(atPos ER (bar c) 0 ∅ 0 ∗ (bigSep Finset.univ fun x : Fin 4 × Fin 8 => openTok ER (cell c x.1 x.2))
          ∗ (dutyTok ER (bar (xp c)) 0 true ∗ dutyTok ER (bar (yp c)) 0 false
            ∗ bigSep Finset.univ fun x : Fin 4 × Fin 8 => dutyTok ER (cell (dest c x.1) x.1 x.2) 0 true)
          ∗ (creds c ∗ (∃ r, prngReg c r) ∗ owesW c (O₀ c))) ⊢ own c by
        unfold own dealt
        iintro ⟨Ha, Ho, Ht, Hr⟩
        isplitl [Ha Ho Ht]
        · isplitl [Ha]; · iexact Ha
          isplitl [Ho]; · iexact Ho
          iexact Ht
        iexact Hr)
  isplitl [Hat]; · iexact Hat
  isplitl [Hopen]; · iexact Hopen
  isplitl [Htok]; · iapply (toks_dealt (F := F)); iexact Htok
  iexact Hrest

/-! ## The call among the host parts -/

theorem call_pre (c : Dev nD) : iprop(StableHlo.held (c : Thread nD τ) (Pipeline.ucRefs τ sig) (V4 m c) ∗ E m 0 c) ⊢ (reg0 m).pre c := by
  show iprop(StableHlo.held (c : Thread nD τ) (Pipeline.ucRefs τ sig) (V4 m c) ∗ (∃ r, prngReg c r) ∗ Tk m c ∗ owesW c (O₀ c))
    ⊢ iprop(StableHlo.held (c.tc : Thread nD τ) (Pipeline.arrRefs (τ := τ) spec0) (V4 m c) ∗ (∃ r, prngReg c r)
      ∗ (StableHlo.held (c.tc : Thread nD τ) others (V4 m c) ∗ emp) ∗ Tk m c ∗ ∃ Wd, owes (c : Thread nD τ) (0 + O₀ c) Wd)
  rw [StableHlo.held_sub_split (c : Thread nD τ) (Pipeline.arrRefs_sub_ucRefs spec0 (by decide)) (V4 m c), zero_add]
  unfold owesW
  iintro ⟨⟨Ha, Ho⟩, Hr, HT, HO⟩
  isplitl [Ha]; · iexact Ha
  isplitl [Hr]; · iexact Hr
  isplitl [Ho]
  · isplitl [Ho]; · iexact Ho
    iempintro
  isplitl [HT]; · iexact HT
  iexact HO

theorem call_post (c : Dev nD) : (reg0 m).post c ⊢ iprop(StableHlo.held (c : Thread nD τ) (Pipeline.ucRefs τ sig) (V5 m (outs m) c) ∗ E m 1 c) := by
  show iprop(StableHlo.held (c.tc : Thread nD τ) (Pipeline.arrRefs (τ := τ) spec0) (V5 m (outs m) c) ∗ (∃ r, prngReg c r)
      ∗ (StableHlo.held (c.tc : Thread nD τ) others (V5 m (outs m) c) ∗ emp) ∗ Yk c ∗ ∃ Wd, owes (c : Thread nD τ) (0 : CellTallies nD τ sig Unit) Wd)
    ⊢ iprop(StableHlo.held (c : Thread nD τ) (Pipeline.ucRefs τ sig) (V5 m (outs m) c) ∗ Yk c ∗ owesW c 0)
  rw [StableHlo.held_sub_split (c : Thread nD τ) (Pipeline.arrRefs_sub_ucRefs spec0 (by decide)) (V5 m (outs m) c)]
  unfold owesW
  iintro ⟨Ha, -, ⟨Ho, -⟩, HY, HO⟩
  isplitl [Ha Ho]
  · isplitl [Ha] <;> iassumption
  isplitl [HY] <;> iassumption

/-! ## The run -/

theorem unscoped_bar : ∀ sm : SemLoc sig, sm.isScoped .tc = false → sm = .reg barS := by decide

/-- What the end is read from: the buffers and the barrier at zero. -/
def last (c : Dev nD) : sProp 𝕄 := iprop(StableHlo.held (c : Thread nD τ) (Pipeline.ucRefs τ sig) (V5 m (outs m) c) ∗ semVal (bar c) 0)

theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; decide⟩

set_option backward.isDefEq.respectTransparency.types false in
/-- From any memory and with the counters at zero every run ends; it ends with the arguments unchanged, the result buffer
    of every device at the sums of the devices' partial rows, and every counter at zero. -/
theorem run_main : θ_run defs (onTc (τ := τ) (main (F := F))) ⟨m, fun _ => 0, ρ⟩ (fun r =>
    (∀ c : Dev nD, r.2.mem ((c.tc : Thread nD τ).loc main_v32) = OUT (part m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_regions_kit_dev_sems (pcfgs (F := F)) adm (dats m) () cellOf_inj EP defs₀ 𝒱₀ L lv m ρ main
    (segs m 𝒱₀ L lv (E m) () (dats m) (reg0 m))
    (fun c Q => by
      rewrite [main_chain c, Seg.run_eq_chain,
        show (segs m 𝒱₀ L lv (E m) () (dats m) (reg0 m) c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E m 0 c))
    (Tₙ := last m)
    (hch := fun c => ⟨.rfl, .rfl, .rfl, .rfl, call_pre m c, (call_post m c).trans ?_⟩)
    (hinit := ?_)
    (QY := fun c s => (∀ b ∈ Pipeline.ucRefs τ sig, s.mem ((c : Thread nD τ).1, b) = V5 m (outs m) c b) ∧ s.sem (bar c) = 0)
    (hfin := fun c s' => ?_) (hQ := fun s h hs => ⟨fun c => ?_, sem_eq_zero hs fun c sm hsm => ?_⟩)
  · show iprop(StableHlo.held (c : Thread nD τ) (Pipeline.ucRefs τ sig) (V5 m (outs m) c) ∗ Yk c ∗ owesW c 0)
      ⊢ iprop(last m c ∗ ∃ W, owes (c : Thread nD τ) (0 : CellTallies nD τ sig Unit) W)
    unfold last Yk owesW
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold last StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h, by simpa using hb⟩
    · iexact HSI
  · have hb := (h c).1
    exact ⟨((hb _ (mem_uc main_v32 (by decide))).trans (Function.update_self _ _ _)).trans (outs_v32 m c),
      (hb _ (mem_uc main_arg0 (by decide))).trans (V5_main_arg0 m (outs m) c),
      (hb _ (mem_uc main_arg1 (by decide))).trans (V5_main_arg1 m (outs m) c)⟩
  · obtain rfl := unscoped_bar sm hsm
    exact (h c).2

end Cert.Lookup

end
-- ==== Proof.Value.lean ====
/-
# A device's partial rows

Before the kernel call the host part takes a device's half of the ids, counts each from the first table row of the
device's block, reads the block's rows there and puts zero where the id is outside the block. Here those steps are put in
closed form, one row at a time.
-/
module

public import proofs.«01_k».proof.Proof.Launch
public import Idealize.ShloMosaic.Lib.Routing.Ops
public import Idealize.ShloMosaic.Lib.DynamicIndex
public import Idealize.ShloMosaic.Lib.StableHlo.RunClose

@[expose] public section

set_option maxRecDepth 16384

noncomputable section

namespace Cert.Lookup

open Cert.KernelIdeal Cert.KernelIdeal.Gen
open Idealize.ShloMosaic Idealize.ShloMosaic.TcCoe Idealize.ShloMosaic.StableHlo Idealize.ShloMosaic.Routing Idealize.ShloMosaic.ValueIdx

variable {F : FTy → Type} [FloatOps F]
variable (m : (ℓ : Loc nD τ sig) → Buf (Elt F) ℓ)

/-! ## The host part, stretch by stretch -/

variable (V : Valuation τ sig (Elt F))

/-- The word the host part computes for a device's first table row, -/
theorem base_word (c : Dev nD) : (muli (id (Host.remui (Host.divui (constantI S_ 32 c.word) (constantI S_ 32 2#32)) (constantI S_ 32 2#32)))
    (constantI S_ 32 4096#32) : IVec S_ 32) = fun _ => BitVec.ofNat 32 (4096 * (c.val / 2)) := by
  revert c; decide

/-- and for where its half of the ids starts. -/
theorem half_word (c : Dev nD) : (select
    (cmpi .slt (muli (id (Host.remui (Host.divui (constantI S_ 32 c.word) (constantI S_ 32 1#32)) (constantI S_ 32 2#32)))
      (constantI S_ 32 256#32)) (constantI S_ 32 0#32))
    (addi (muli (id (Host.remui (Host.divui (constantI S_ 32 c.word) (constantI S_ 32 1#32)) (constantI S_ 32 2#32)))
      (constantI S_ 32 256#32)) (constantI S_ 32 512#32))
    (muli (id (Host.remui (Host.divui (constantI S_ 32 c.word) (constantI S_ 32 1#32)) (constantI S_ 32 2#32)))
      (constantI S_ 32 256#32)) : IVec S_ 32) = fun _ => BitVec.ofNat 32 (256 * (c.val % 2)) := by
  revert c; decide

/-- The first table row of a device's block, as a word; -/
theorem v9_eq (c : Dev nD) : (after (hostOps0 c) V main_v9 : IVec S_ 32) = fun _ => BitVec.ofNat 32 (4096 * (c.val / 2)) := by
  after_results_simp_entrywise
  exact base_word c

/-- where its half of the ids starts; -/
theorem v13_eq (c : Dev nD) : (after (hostOps0 c) V main_v13 : IVec S_ 32) = fun _ => BitVec.ofNat 32 (256 * (c.val % 2)) := by
  after_results_simp_entrywise
  exact half_word c

/-- that half of the ids; -/
theorem v14_eq (c : Dev nD) : (after (hostOps0 c) V main_v14 : IVec S256 32)
    = Host.dynamicSlice S256 (V main_arg0 : IVec S512 32)
        (fun _ => ((after (hostOps0 c) V main_v13 : IVec S_ 32) (Shape.Idx.first h_S_)).toInt) sliceFits_S512_S256 := by
  after_results_simp_entrywise
  refine congrArg (fun st => Host.dynamicSlice S256 (V main_arg0 : IVec S512 32) st sliceFits_S512_S256) (funext fun k => ?_)
  obtain rfl : k = 0 := Subsingleton.elim _ _
  rfl

/-- the ids counted from that row; -/
theorem v16_eq (c : Dev nD) : (after (hostOps0 c) V main_v16 : IVec S256 32)
    = subi (after (hostOps0 c) V main_v14 : IVec S256 32)
        (broadcastInDim S256 ![] bcast_S_S256 (after (hostOps0 c) V main_v9 : IVec S_ 32)) := by
  after_results_simp_entrywise

/-- which of them lie in the block; -/
theorem v21_eq (c : Dev nD) : (after (hostOps0 c) V main_v21 : IVec S256 1)
    = andi (cmpi .sge (after (hostOps0 c) V main_v16 : IVec S256 32) (broadcastInDim S256 ![] bcast_S_S256 (constantI S_ 32 0#32)))
        (cmpi .slt (after (hostOps0 c) V main_v16 : IVec S256 32) (broadcastInDim S256 ![] bcast_S_S256 (constantI S_ 32 4096#32))) := by
  after_results_simp_entrywise

/-- (zero, the stand-in row number); -/
theorem c9_eq (c : Dev nD) : (after (hostOps0 c) V main_c_9 : IVec S_ 32) = constantI S_ 32 0#32 := by
  after_results_simp_entrywise

/-- the row read for each, the first one for an id outside the block; -/
theorem v22_eq : (after hostOps0_1 V main_v22 : IVec S256 32)
    = select (V main_v21 : IVec S256 1) (V main_v16 : IVec S256 32) (broadcastInDim S256 ![] bcast_S_S256 (V main_c_9 : IVec S_ 32)) := by
  after_results_simp_entrywise
  rfl

/-- the marks as a column; -/
theorem v23_eq : (after hostOps0_2 V main_v23 : IVec S256x1 1)
    = broadcastInDim S256x1 ![0] bcast_S256_S256x1_0 (V main_v21 : IVec S256 1) := by
  after_results_simp_entrywise

/-- the rows read; -/
theorem v30_eq : (after hostOps0_2 V main_v30 : FVec F S256x512 .f32)
    = Host.gather gather_S4096x512_S256x1_S256x512_1_0_n_n_0_1_1512 (V main_arg1 : FVec F S4096x512 .f32)
        (broadcastInDim S256x1 ![0] bcast_S256_S256x1_0
          (select (cmpi .slt (V main_v22 : IVec S256 32) (broadcastInDim S256 ![] bcast_S_S256 (constantI S_ 32 0#32)))
            (addi (V main_v22 : IVec S256 32) (broadcastInDim S256 ![] bcast_S_S256 (constantI S_ 32 4096#32)))
            (V main_v22 : IVec S256 32))) := by
  after_results_simp_entrywise

/-- the stand-in value, the word of zero; -/
theorem cst_eq : (after hostOps0_2 V main_cst : FVec F S_ .f32) = constant S_ .f32 0x00000000#32 := by
  after_results_simp_entrywise

/-- and the partial rows: the row read where the id is in the block, zero elsewhere. -/
theorem v31_eq : (after hostOps0_3 V main_v31 : FVec F S256x512 .f32)
    = select (broadcastInDim S256x512 ![0, 1] bcast_S256x1_S256x512_0_1 (V main_v23 : IVec S256x1 1))
        (V main_v30 : FVec F S256x512 .f32) (broadcastInDim S256x512 ![] bcast_S_S256x512 (V main_cst : FVec F S_ .f32)) := by
  after_results_simp_entrywise
  rfl

/-! ## An id counted from a block's first row -/

/-- An id below 8192 less a block's first row, read signed, is the difference. -/
theorem sub_toInt {n x : ℕ} (hn : n < 8192) (hx : x < 2) :
    (BitVec.ofNat 32 n - BitVec.ofNat 32 (4096 * x)).toInt = (n : ℤ) - 4096 * x := by
  rw [BitVec.toInt_sub, toInt_ofNat_of_lt (by omega), toInt_ofNat_of_lt (by omega), Int.bmod_eq_of_le (by omega) (by omega)]
  omega

/-- The two comparisons say that the id is in the block. -/
theorem mark_eq {n x : ℕ} (hn : n < 8192) (hx : x < 2) (w : BitVec 32) (hw : w.toInt = (n : ℤ) - 4096 * x) :
    (BitVec.ofBool ((0#32).sle w) &&& BitVec.ofBool (w.slt 4096#32)) = (if n / 4096 = x then 1#1 else 0#1) := by
  have h0 : ((0#32).sle w) = decide (4096 * x ≤ n) := by
    rw [BitVec.sle, BitVec.toInt_zero, hw]; exact decide_eq_decide.mpr (by omega)
  have h1 : (w.slt 4096#32) = decide (n < 4096 * x + 4096) := by
    rw [BitVec.slt, hw, show (4096#32).toInt = 4096 from rfl]; exact decide_eq_decide.mpr (by omega)
  rw [h0, h1]
  by_cases h : n / 4096 = x
  · rw [if_pos h, decide_eq_true (by omega), decide_eq_true (by omega)]; rfl
  · rw [if_neg h]
    by_cases h2 : 4096 * x ≤ n
    · rw [decide_eq_true h2, decide_eq_false (by omega)]; rfl
    · rw [decide_eq_false h2]; simp

/-- In the block, the word is the row's number there. -/
theorem sub_word {n x : ℕ} (hn : n < 8192) (hx : x < 2) (h : n / 4096 = x) :
    BitVec.ofNat 32 n - BitVec.ofNat 32 (4096 * x) = BitVec.ofNat 32 (n % 4096) := by
  apply BitVec.eq_of_toInt_eq
  rw [sub_toInt hn hx, toInt_ofNat_of_lt (by omega)]
  omega

/-! ## A device's partial rows -/

section Part

variable (c : Dev nD) (r : Fin 256) (k : Fin 512) (hk : k.val = 256 * (c.val % 2) + r.val) (n : ℕ) (hn : n < 8192)
  (hid : (m ((c : Thread nD τ).loc main_arg0) : IVec S512 32) (ix1 k) = BitVec.ofNat 32 n)

include hk hid in
/-- The id of row `r`. -/
theorem v14_at : (V1 m c main_v14 : IVec S256 32) (ix1 r) = BitVec.ofNat 32 n := by
  have hc : c.val % 2 < 2 := Nat.mod_lt _ (by decide)
  refine (congrFun (v14_eq (V0 m c) c) (ix1 r)).trans ?_
  rw [Host.dynamicSlice_eq_extractStridedSlice S256 _ _ ![256 * (c.val % 2)] sliceFits_S512_S256 (by
      refine ⟨rfl, fun a => ?_⟩
      obtain rfl : a = 0 := Subsingleton.elim _ _
      show 256 * (c.val % 2) + 256 ≤ 512
      omega) (fun a => by
      obtain rfl : a = 0 := Subsingleton.elim _ _
      rw [v13_eq]
      exact toInt_ofNat_of_lt (by omega))]
  refine (slice1 _ _ _ r (by omega)).trans (Eq.trans ?_ hid)
  exact congrArg (fun b => (m ((c : Thread nD τ).loc main_arg0) : IVec S512 32) (ix1 b)) (Fin.ext hk.symm)

include hk hid in
/-- That id counted from the block's first row. -/
theorem v16_at : (V1 m c main_v16 : IVec S256 32) (ix1 r) = BitVec.ofNat 32 n - BitVec.ofNat 32 (4096 * (c.val / 2)) := by
  refine (congrFun (v16_eq (V0 m c) c) (ix1 r)).trans ?_
  refine congrArg₂ (fun a b : BitVec 32 => a - b) (v14_at m c r k hk n hid) ?_
  rw [v9_eq]
  rfl

include hk hid hn in
/-- Whether it is in the block. -/
theorem v21_at : (V1 m c main_v21 : IVec S256 1) (ix1 r) = if n / 4096 = c.val / 2 then 1#1 else 0#1 := by
  have hc : c.val < 4 := c.isLt
  refine (congrFun (v21_eq (V0 m c) c) (ix1 r)).trans ?_
  exact mark_eq hn (by omega) _ ((congrArg BitVec.toInt (v16_at m c r k hk n hid)).trans (sub_toInt hn (by omega)))

/-- The row read for id `n` on the device of block `x`. -/
abbrev rowOf (n x : ℕ) : ℕ := if n / 4096 = x then n % 4096 else 0

include hk hid hn in
/-- Its word. -/
theorem v22_at : (V2 m c main_v22 : IVec S256 32) (ix1 r) = BitVec.ofNat 32 (rowOf n (c.val / 2)) := by
  have hc : c.val < 4 := c.isLt
  refine (congrFun (v22_eq (V1 m c)) (ix1 r)).trans ?_
  unfold rowOf
  by_cases h : n / 4096 = c.val / 2
  · rw [if_pos h]
    exact (if_pos ((v21_at m c r k hk n hn hid).trans (if_pos h))).trans ((v16_at m c r k hk n hid).trans (sub_word hn (by omega) h))
  · rw [if_neg h]
    refine (if_neg fun e => ?_).trans (congrFun (c9_eq (V0 m c) c) _)
    exact absurd (e.symm.trans ((v21_at m c r k hk n hn hid).trans (if_neg h))) (by decide)

include hk hid hn in
/-- The row read. -/
theorem v30_at (col : Fin 512) : (V3 m c main_v30 : FVec F S256x512 .f32) (ix2 r col)
    = (m ((c : Thread nD τ).loc main_arg1) : FVec F S4096x512 .f32)
        (ix2 ⟨rowOf n (c.val / 2), by unfold rowOf; split <;> omega⟩ col) := by
  have hb : rowOf n (c.val / 2) < 4096 := by unfold rowOf; split <;> omega
  refine (congrFun (v30_eq (V2 m c)) (ix2 r col)).trans ?_
  have hE : (V2 m c main_arg1 : FVec F S4096x512 .f32) = m ((c : Thread nD τ).loc main_arg1) :=
    (V2_of m c main_arg1 (by decide)).trans (V1_of m c main_arg1 (by decide))
  rw [hE]
  refine gather_row _ rfl rfl rfl rfl rfl _ _ r col ⟨rowOf n (c.val / 2), hb⟩ ?_ (by decide)
  refine (bcCol _ _ r).trans ?_
  refine (select_slt_zero_of_nonneg _ _ _ _ ?_).trans (v22_at m c r k hk n hn hid)
  rw [v22_at m c r k hk n hn hid, toInt_ofNat_of_lt (by omega)]
  omega

include hk hid hn in
/-- A partial row is the block's row where the id is in the block, zero elsewhere. -/
theorem part_at (col : Fin 512) : part m c (ix2 r col) = if n / 4096 = c.val / 2 then
      (m ((c : Thread nD τ).loc main_arg1) : FVec F S4096x512 .f32) (ix2 ⟨n % 4096, by omega⟩ col)
    else FloatOps.ofBits .f32 0x00000000#32 := by
  refine (congrFun (v31_eq (V3 m c)) (ix2 r col)).trans ?_
  have hm : broadcastInDim S256x512 ![0, 1] bcast_S256x1_S256x512_0_1 (V3 m c main_v23 : IVec S256x1 1) (ix2 r col)
      = if n / 4096 = c.val / 2 then 1#1 else 0#1 := by
    rw [show (V3 m c main_v23 : IVec S256x1 1) = _ from v23_eq (V2 m c)]
    refine (bcRows _ _ _ r col).trans ((congrFun (V2_of m c main_v21 (by decide)) (ix1 r)).trans (v21_at m c r k hk n hn hid))
  by_cases h : n / 4096 = c.val / 2
  · rw [if_pos h]
    refine (if_pos (hm.trans (if_pos h))).trans ((v30_at m c r k hk n hn hid col).trans ?_)
    exact congrArg (fun b => (m ((c : Thread nD τ).loc main_arg1) : FVec F S4096x512 .f32) (ix2 b col))
      (Fin.ext (show rowOf n (c.val / 2) = n % 4096 from if_pos h))
  · rw [if_neg h]
    refine (if_neg fun e => ?_).trans (congrFun (cst_eq (V2 m c)) _)
    exact absurd (e.symm.trans (hm.trans (if_neg h))) (by decide)

end Part

end Cert.Lookup

end
-- ==== Proof.Result.lean ====
/-
# The result is the lookup

For ids from 0 to 8191 every row of the result is the table's row of its id: of the two devices across `x` that meet in a
row, one holds the table's row and the other zero.
-/
module

public import proofs.«01_k».proof.Proof.Value
public import proofs.«01_k».proof.Proof.Gen.ReferenceIdeal
public import Idealize.ShloMosaic.Lib.Layout
public import Idealize.ShloMosaic.Lib.ValueIdx
public import Idealize.ShloMosaic.PureOps.Ideal.Laws

@[expose] public section

set_option maxRecDepth 16384

noncomputable section

namespace Cert.Lookup

open Cert.KernelIdeal Cert.KernelIdeal.Gen
open Idealize.ShloMosaic Idealize.ShloMosaic.TcCoe Idealize.ShloMosaic.Routing Idealize.ShloMosaic.ValueIdx

/-- The precondition at one id: it is a number below 8192. -/
theorem id_lt (w : BitVec 32) (h : BitVec.ofBool ((0#32).sle w) &&& BitVec.ofBool (w.slt 8192#32) = 1#1) : w.toNat < 8192 := by
  have h0 : (0#32).sle w = true := by
    cases e : (0#32).sle w
    · rw [e] at h; simp at h
    · rfl
  have h1 : w.slt 8192#32 = true := by
    cases e : w.slt 8192#32
    · rw [e] at h; simp at h
    · rfl
  rw [BitVec.sle, BitVec.toInt_zero, decide_eq_true_eq] at h0
  rw [BitVec.slt, decide_eq_true_eq, show (8192#32).toInt = 8192 from rfl] at h1
  rw [BitVec.toInt_eq_toNat_cond] at h0 h1
  split at h0 <;> omega

/-- The table row of id `n`, as the result's entry at `(R, col)`, for the ids `A` and the table `E`. -/
def looked (A : IVec S512 32) (hA : ∀ R : Fin 512, (A (ix1 R)).toNat < 8192)
    (E : FVec Ideal ⟨2, ![8192, 512]⟩ .f32) : FVec Ideal S512x512 .f32 :=
  fun i => E (ix2 ⟨(A (ix1 (i 0))).toNat, hA (i 0)⟩ (i 1))

/-- Every device holds all the ids `A` and its block of the table `E`. -/
def Cut (m : (ℓ : Loc nD τ sig) → Buf (Elt Ideal) ℓ) (A : IVec S512 32) (E : FVec Ideal ⟨2, ![8192, 512]⟩ .f32) : Prop :=
  ∀ c : Dev nD, m ((c : Thread nD τ).loc main_arg0) = A
    ∧ m ((c : Thread nD τ).loc main_arg1) = Layout.blockN ⟨2, ![4096, 512]⟩ ⟨2, ![8192, 512]⟩ (Layout.meshBlock [2, 2] ![[0], []] c) E

variable (m : (ℓ : Loc nD τ sig) → Buf (Elt Ideal) ℓ)
variable (A : IVec S512 32) (hA : ∀ R : Fin 512, (A (ix1 R)).toNat < 8192) (E : FVec Ideal ⟨2, ![8192, 512]⟩ .f32)
variable (hm : Cut m A E)

include hm in
/-- A device's partial row for a row of its half is the table's row if the id is in its block, zero if not. -/
theorem part_row (d : Dev nD) (R : Fin 512) (hR : R.val / 256 = d.val % 2) (col : Fin 512) :
    part m d (at256 R.val col) = if (A (ix1 R)).toNat / 4096 = d.val / 2 then E (ix2 ⟨(A (ix1 R)).toNat, hA R⟩ col) else 0 := by
  have hd : d.val < 4 := d.isLt
  have hat : at256 R.val col = ix2 ⟨R.val % 256, Nat.mod_lt _ (by decide)⟩ col := by
    funext a
    match a with
    | ⟨0, _⟩ => rfl
    | ⟨1, _⟩ => rfl
  rw [hat]
  refine (part_at m d ⟨R.val % 256, Nat.mod_lt _ (by decide)⟩ R (show R.val = 256 * (d.val % 2) + R.val % 256 by omega)
    (A (ix1 R)).toNat (hA R) ?_ col).trans ?_
  · rw [(hm d).1, BitVec.ofNat_toNat, BitVec.setWidth_eq]
  · by_cases h : (A (ix1 R)).toNat / 4096 = d.val / 2
    · rw [if_pos h, if_pos h, (hm d).2]
      refine congrArg E (funext fun a => Fin.ext ?_)
      match a with
      | ⟨0, _⟩ =>
        show ((d.val / 2 % 2) * 1 + 0) * 4096 + (A (ix1 R)).toNat % 4096 = (A (ix1 R)).toNat
        omega
      | ⟨1, _⟩ =>
        show 0 * 512 + col.val = col.val
        omega
    · rw [if_neg h, if_neg h]
      exact Ideal.ofBits_zero_f32

include hm in
/-- Every device's result is the lookup. -/
theorem OUT_looked (c : Dev nD) : OUT (part m) c = looked A hA E := by
  funext i
  have hc : c.val < 4 := c.isLt
  have hR : (i 0).val < 512 := (i 0).isLt
  have hn := hA (i 0)
  have hs0 : (summer c (i 0).val).val = 2 * (c.val / 2) + ((i 0).val / 256) % 2 := rfl
  have hx : ∀ d : Dev nD, (xp d).val / 2 = 1 - d.val / 2 := by decide
  have e1 := part_row m A hA E hm (summer c (i 0).val) (i 0) (by rw [hs0]; omega) (i 1)
  have e2 := part_row m A hA E hm (xp (summer c (i 0).val)) (i 0) (by rw [half_xp, hs0]; omega) (i 1)
  unfold OUT
  rw [addf_apply, e1, e2, hx, hs0]
  unfold looked
  by_cases h : (A (ix1 (i 0))).toNat / 4096 = (2 * (c.val / 2) + ((i 0).val / 256) % 2) / 2
  · rw [if_pos h, if_neg (by omega)]
    exact add_zero _
  · rw [if_neg h, if_pos (by omega)]
    exact zero_add _

/-- The reference's gather is the lookup. -/
theorem reference_looked :
    Host.gather Cert.ReferenceIdeal.gather_S8192x512_S512x1_S512x512_1_0_n_n_0_1_1512 E
      (broadcastInDim Cert.ReferenceIdeal.S512x1 ![0] Cert.ReferenceIdeal.Gen.bcast_S512_S512x1_0
        (select (cmpi .slt A (broadcastInDim Cert.ReferenceIdeal.S512 ![] Cert.ReferenceIdeal.Gen.bcast_S_S512 (constantI Cert.ReferenceIdeal.S_ 32 0#32)))
          (addi A (broadcastInDim Cert.ReferenceIdeal.S512 ![] Cert.ReferenceIdeal.Gen.bcast_S_S512 (constantI Cert.ReferenceIdeal.S_ 32 8192#32))) A))
      = looked A hA E := by
  funext i
  have hi : i = ix2 (i 0) (i 1) := by
    funext a
    match a with
    | ⟨0, _⟩ => rfl
    | ⟨1, _⟩ => rfl
  rw [hi]
  have hn := hA (i 0)
  refine gather_row _ rfl rfl rfl rfl rfl E _ (i 0) (i 1) ⟨(A (ix1 (i 0))).toNat, hn⟩ ?_ (by decide)
  refine (bcCol _ _ (i 0)).trans ((select_slt_zero_of_nonneg _ _ _ _ ?_).trans ?_)
  · have e : (A (ix1 (i 0))).toInt = (A (ix1 (i 0))).toNat := by
      rw [BitVec.toInt_eq_toNat_cond, if_pos (by omega)]
    exact e ▸ Int.natCast_nonneg _
  · exact ((BitVec.ofNat_toNat 32 (A (ix1 (i 0)))).trans (BitVec.setWidth_eq _)).symm

end Cert.Lookup

end
-- ==== Proof.lean ====
/-
# The claim

Each program runs to the end with its arguments unchanged and every counter at zero; for ids from 0 to 8191 the kernel's
result on every device is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.ValueIdx Idealize.SL.Sem

/-- The precondition's one shape fact, for the kernel's arrays and for the reference's. -/
theorem pre_kernel : Cert.Pre_ids_in_range_KernelIdeal.Facts := ⟨by decide⟩
theorem pre_reference : Cert.Pre_ids_in_range_ReferenceIdeal.Facts := ⟨by decide⟩

/-- For any float values the kernel's text runs to the end, its arguments unchanged, every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).2.2⟩, h.2⟩) (Cert.Lookup.run_main m ρ)

/-- The kernel as written and its idealization run one body. -/
theorem bodies_eq {F : FTy → Type} [FloatOps F] : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) (funext fun l => funext fun a => ?_)
  obtain rfl : l = 0 := Subsingleton.elim _ _
  obtain ⟨t, s⟩ := a
  rfl

/-- They are one program. -/
theorem defs_eq {F : FTy → Type} [FloatOps F] : Cert.Kernel.defs (F := F) = Cert.KernelIdeal.defs (F := F) :=
  congrArg (Pipeline.defs (Cert.KernelIdeal.pcfgs (F := F))) bodies_eq
theorem main_eq {F : FTy → Type} [FloatOps F] : Cert.Kernel.main (F := F) = Cert.KernelIdeal.main (F := F) := rfl

/-- So the kernel as written runs to the end, its arguments unchanged, every counter at zero, -/
theorem frame_kernel : Cert.quiescent_Kernel := fun m ρ _ => by
  rw [defs_eq, main_eq]
  exact frame_any (F := Bits) m ρ

/-- and so does the idealized kernel; -/
theorem frame_ideal : Cert.quiescent_KernelIdeal := fun m ρ _ => frame_any (F := Ideal) m ρ

/-- so does the reference. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- For ids from 0 to 8191 every device of the kernel ends with the reference's result. -/
theorem algebraic :
    Cert.algebraic_KernelIdeal_ReferenceIdeal_pre_ids_in_range_KernelIdeal (hPre_ids_in_range_KernelIdeal := pre_kernel) := by
  intro m g m' g' hpre hm
  have hA : ∀ R : Fin 512, ((m' (((0 : Dev Cert.ReferenceIdeal.nD).tc : Thread Cert.ReferenceIdeal.nD Cert.ReferenceIdeal.τ).loc
      Cert.ReferenceIdeal.main_arg0) : IVec Cert.ReferenceIdeal.S512 32) (ix1 R)).toNat < 8192 := fun R => by
    have h := congrFun (hpre 0) (ix1 R)
    rw [(hm 0).1] at h
    exact Cert.Lookup.id_lt _ h
  refine ⟨Cert.Lookup.looked _ hA (m' (((0 : Dev Cert.ReferenceIdeal.nD).tc : Thread Cert.ReferenceIdeal.nD Cert.ReferenceIdeal.τ).loc
      Cert.ReferenceIdeal.main_arg1)), ?_, ?_⟩
  · exact (θ_run Cert.KernelIdeal.defs _ _).mono
      (fun _ h c => ⟨(h.1 c).1.trans (Cert.Lookup.OUT_looked m _ hA _ hm c), (h.1 c).2.1, (h.1 c).2.2⟩)
      (Cert.Lookup.run_main (F := Ideal) m g)
  · exact (θ_run Cert.ReferenceIdeal.defs _ _).mono
      (fun _ h => ⟨(h 0).1.trans (Cert.Lookup.reference_looked _ hA _), (h 0).2.1, (h 0).2.2⟩)
      (Cert.ReferenceIdeal.Value.run (F := Ideal) m' g')

theorem claim : Cert.Claim :=
  ⟨Cert.Kernel.Gen.facts, Cert.KernelIdeal.Gen.facts, Cert.ReferenceIdeal.Gen.facts, pre_kernel, pre_reference,
    frame_kernel, frame_ideal, fun m ρ _ => frame_ideal m ρ trivial, frame_reference,
    fun m ρ _ => frame_reference m ρ trivial, trivial, algebraic⟩

end Cert.Proof

end
